-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "cell" .f32 0x3ECCCCCD#32 ((2 / 5 : ℝ) : EReal)

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v404) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S8x3x250x500 : Shape := ⟨4, ![8, 3, 250, 500]⟩
abbrev S8x7x250x500 : Shape := ⟨4, ![8, 7, 250, 500]⟩
abbrev S8x2x250x500 : Shape := ⟨4, ![8, 2, 250, 500]⟩
abbrev S8x64x8 : Shape := ⟨3, ![8, 64, 8]⟩
abbrev S_ : Shape := ⟨0, ![]⟩
abbrev S8x64x1 : Shape := ⟨3, ![8, 64, 1]⟩
abbrev S8x64 : Shape := ⟨2, ![8, 64]⟩

class Facts : Prop where
  slices_S8x64x8_S8x64x1_0_0_7 : S8x64x8.Slices ![0, 0, 7] S8x64x1
  shapeCasts_S8x64x1_S8x64 : S8x64x1.ShapeCasts S8x64
  bcast_S_S8x3x250x500 : S_.BroadcastsInDim S8x3x250x500 (![] : Fin 0 → Fin S8x3x250x500.rank)
  bcast_S_S8x2x250x500 : S_.BroadcastsInDim S8x2x250x500 (![] : Fin 0 → Fin S8x2x250x500.rank)
  bcast_S_S8x64 : S_.BroadcastsInDim S8x64 (![] : Fin 0 → Fin S8x64.rank)

variable [Facts]

def fn {F : FTy → Type} [FloatOps F] (main_arg0 : FVec F S8x3x250x500 .f32) (main_arg1 : FVec F S8x7x250x500 .f32) (main_arg2 : FVec F S8x2x250x500 .f32) (main_arg3 : FVec F S8x64x8 .f32) (main_arg4 : IVec S_ 32) : IVec S8x3x250x500 1 × IVec S8x2x250x500 1 × IVec S8x64 1 × IVec S8x64 1 :=
  let main_v0 : FVec F S8x64x1 .f32 := (extractStridedSlice S8x64x1 ![0, 0, 7] · slices_S8x64x8_S8x64x1_0_0_7) main_arg3
  let main_v1 : FVec F S8x64 .f32 := shapeCast S8x64 main_v0 shapeCasts_S8x64x1_S8x64
  let main_v2 : IVec S8x64 32 := fptosi 32 main_v1
  let main_cst : FVec F S_ .f32 := constant S_ .f32 0xFF800000#32
  let main_v3 : FVec F S8x3x250x500 .f32 := broadcastInDim S8x3x250x500 ![] bcast_S_S8x3x250x500 main_cst
  let main_v4 : IVec S8x3x250x500 1 := cmpf .ogt main_arg0 main_v3
  let main_cst_0 : FVec F S_ .f32 := constant S_ .f32 0xFF800000#32
  let main_v5 : FVec F S8x2x250x500 .f32 := broadcastInDim S8x2x250x500 ![] bcast_S_S8x2x250x500 main_cst_0
  let main_v6 : IVec S8x2x250x500 1 := cmpf .ogt main_arg2 main_v5
  let main_c : IVec S_ 32 := constantI S_ 32 0#32
  let main_v7 : IVec S8x64 32 := broadcastInDim S8x64 ![] bcast_S_S8x64 main_c
  let main_v8 : IVec S8x64 1 := cmpi .sge main_v2 main_v7
  let main_c_1 : IVec S_ 32 := constantI S_ 32 3#32
  let main_v9 : IVec S8x64 32 := broadcastInDim S8x64 ![] bcast_S_S8x64 main_c_1
  let main_v10 : IVec S8x64 1 := cmpi .slt main_v2 main_v9
  (main_v4, main_v6, main_v8, main_v10)
-- ==== Kernel.lean ====
abbrev S8x3x250x500 : Shape := ⟨4, ![8, 3, 250, 500]⟩
abbrev S8x7x250x500 : Shape := ⟨4, ![8, 7, 250, 500]⟩
abbrev S8x2x250x500 : Shape := ⟨4, ![8, 2, 250, 500]⟩
abbrev S8x64x8 : Shape := ⟨3, ![8, 64, 8]⟩
abbrev S_ : Shape := ⟨0, ![]⟩
abbrev S3x250x8x500 : Shape := ⟨4, ![3, 250, 8, 500]⟩
abbrev S7x250x8x500 : Shape := ⟨4, ![7, 250, 8, 500]⟩
abbrev S8x250x2x500 : Shape := ⟨4, ![8, 250, 2, 500]⟩
abbrev S8x8x64 : Shape := ⟨3, ![8, 8, 64]⟩
abbrev S1x1x4 : Shape := ⟨3, ![1, 1, 4]⟩
abbrev S3x25x8x500 : Shape := ⟨4, ![3, 25, 8, 500]⟩
abbrev S7x25x8x500 : Shape := ⟨4, ![7, 25, 8, 500]⟩
abbrev S8x25x2x500 : Shape := ⟨4, ![8, 25, 2, 500]⟩
abbrev S8x9x500x64 : Shape := ⟨4, ![8, 9, 500, 64]⟩
abbrev S1x128 : Shape := ⟨2, ![1, 128]⟩
abbrev S8x1x64 : Shape := ⟨3, ![8, 1, 64]⟩
abbrev S8x64 : Shape := ⟨2, ![8, 64]⟩
abbrev S500x64 : Shape := ⟨2, ![500, 64]⟩
abbrev S250x64 : Shape := ⟨2, ![250, 64]⟩
abbrev S64x64 : Shape := ⟨2, ![64, 64]⟩
abbrev S1x64 : Shape := ⟨2, ![1, 64]⟩
abbrev S1x1x500x64 : Shape := ⟨4, ![1, 1, 500, 64]⟩
abbrev S64 : Shape := ⟨1, ![64]⟩
abbrev S25x64 : Shape := ⟨2, ![25, 64]⟩
abbrev S25x500 : Shape := ⟨2, ![25, 500]⟩
abbrev S1x25x1x500 : Shape := ⟨4, ![1, 25, 1, 500]⟩
abbrev S1x25x500 : Shape := ⟨3, ![1, 25, 500]⟩
abbrev S1 : Shape := ⟨1, ![1]⟩
abbrev S1x1x1 : Shape := ⟨3, ![1, 1, 1]⟩
abbrev S1x1 : Shape := ⟨2, ![1, 1]⟩

abbrev nBuf : Space → Nat
  | .hbm => 10
  | .vmem => 10
  | .smem => 0
  | _ => 0

abbrev bufTy : (tb : Table) → Fin (tcTables nBuf tb) → BufTy
  | .hbm, ⟨0, _⟩ => ⟨S8x3x250x500, .f32⟩
  | .hbm, ⟨1, _⟩ => ⟨S8x7x250x500, .f32⟩
  | .hbm, ⟨2, _⟩ => ⟨S8x2x250x500, .f32⟩
  | .hbm, ⟨3, _⟩ => ⟨S8x64x8, .f32⟩
  | .hbm, ⟨4, _⟩ => ⟨S_, .i32⟩
  | .hbm, ⟨5, _⟩ => ⟨S3x250x8x500, .f32⟩
  | .hbm, ⟨6, _⟩ => ⟨S7x250x8x500, .f32⟩
  | .hbm, ⟨7, _⟩ => ⟨S8x250x2x500, .f32⟩
  | .hbm, ⟨8, _⟩ => ⟨S8x8x64, .f32⟩
  | .hbm, ⟨9, _⟩ => ⟨S1x1x4, .f32⟩
  | .local _ .vmem, ⟨0, _⟩ => ⟨S3x25x8x500, .f32⟩
  | .local _ .vmem, ⟨1, _⟩ => ⟨S3x25x8x500, .f32⟩
  | .local _ .vmem, ⟨2, _⟩ => ⟨S7x25x8x500, .f32⟩
  | .local _ .vmem, ⟨3, _⟩ => ⟨S7x25x8x500, .f32⟩
  | .local _ .vmem, ⟨4, _⟩ => ⟨S8x25x2x500, .f32⟩
  | .local _ .vmem, ⟨5, _⟩ => ⟨S8x25x2x500, .f32⟩
  | .local _ .vmem, ⟨6, _⟩ => ⟨S8x8x64, .f32⟩
  | .local _ .vmem, ⟨7, _⟩ => ⟨S1x1x4, .f32⟩
  | .local _ .vmem, ⟨8, _⟩ => ⟨S8x9x500x64, .f32⟩
  | .local _ .vmem, ⟨9, _⟩ => ⟨S1x128, .f32⟩
  | _, _ => ⟨S8x3x250x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7

abbrev nD : Nat := 1
abbrev τ : Topo := Topo.v7x

variable {F : FTy → Type} [FloatOps F]

abbrev grid0 : Pipeline.Grid := ⟨1, ![10], ![false]⟩

def k0_cond2 (i : grid0.Coords) : BitVec 1 :=
  let arg0 : BitVec 32 := BitVec.ofNat 32 (i 0).val
  let c9_i32 : BitVec 32 := 9#32
  let v3489 : BitVec 1 := Scalar.cmpi .eq arg0 c9_i32
  let v3490 : BitVec 32 := Scalar.extui v3489
  let c0_i32_1780 : BitVec 32 := 0#32
  let v3491 : BitVec 1 := Scalar.cmpi .ne v3490 c0_i32_1780
  v3491

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S3x25x8x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x25x8x500 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x25x2x500 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "cell" => some ((2 / 5 : ℝ) : EReal)
  | _ => none
-- ==== ReferenceIdeal.lean ====
abbrev S8x3x250x500 : Shape := ⟨4, ![8, 3, 250, 500]⟩
abbrev S8x7x250x500 : Shape := ⟨4, ![8, 7, 250, 500]⟩
abbrev S8x2x250x500 : Shape := ⟨4, ![8, 2, 250, 500]⟩
abbrev S8x64x8 : Shape := ⟨3, ![8, 64, 8]⟩
abbrev S_ : Shape := ⟨0, ![]⟩
abbrev S512x8 : Shape := ⟨2, ![512, 8]⟩
abbrev S512x1 : Shape := ⟨2, ![512, 1]⟩
abbrev S512 : Shape := ⟨1, ![512]⟩
abbrev S8 : Shape := ⟨1, ![8]⟩
abbrev S8x64 : Shape := ⟨2, ![8, 64]⟩
abbrev S512x4 : Shape := ⟨2, ![512, 4]⟩
abbrev S512x7 : Shape := ⟨2, ![512, 7]⟩
abbrev S7 : Shape := ⟨1, ![7]⟩
abbrev S1x7 : Shape := ⟨2, ![1, 7]⟩
abbrev S512x7x1 : Shape := ⟨3, ![512, 7, 1]⟩
abbrev S512x7x4 : Shape := ⟨3, ![512, 7, 4]⟩
abbrev S8x250x500 : Shape := ⟨3, ![8, 250, 500]⟩
abbrev S512x3 : Shape := ⟨2, ![512, 3]⟩
abbrev S3 : Shape := ⟨1, ![3]⟩
abbrev S3x3 : Shape := ⟨2, ![3, 3]⟩
abbrev S9 : Shape := ⟨1, ![9]⟩
abbrev S1x9 : Shape := ⟨2, ![1, 9]⟩
abbrev S512x9 : Shape := ⟨2, ![512, 9]⟩
abbrev S512x9x1 : Shape := ⟨3, ![512, 9, 1]⟩
abbrev S512x9x4 : Shape := ⟨3, ![512, 9, 4]⟩
abbrev S1x3x1x1 : Shape := ⟨4, ![1, 3, 1, 1]⟩
abbrev S8x1x250x500 : Shape := ⟨4, ![8, 1, 250, 500]⟩
abbrev S1 : Shape := ⟨1, ![1]⟩
abbrev S4 : Shape := ⟨1, ![4]⟩
abbrev S1x1x4 : Shape := ⟨3, ![1, 1, 4]⟩

abbrev nBuf : Space → Nat
  | .hbm => 619
  | .vmem => 0
  | .smem => 0
  | _ => 0

abbrev hbmTy0_0 (i : Nat) : BufTy := match i % 128 with
  | 0 => ⟨S8x3x250x500, .f32⟩
  | 1 => ⟨S8x7x250x500, .f32⟩
  | 2 => ⟨S8x2x250x500, .f32⟩
  | 3 => ⟨S8x64x8, .f32⟩
  | 4 => ⟨S_, .i32⟩
  | 5 => ⟨S_, .f32⟩
  | 6 => ⟨S_, .f32⟩
  | 7 => ⟨S_, .f32⟩
  | 8 => ⟨S512x8, .f32⟩
  | 9 => ⟨S512x1, .f32⟩
  | 10 => ⟨S512, .f32⟩
  | 11 => ⟨S512x1, .f32⟩
  | 12 => ⟨S512, .f32⟩
  | 13 => ⟨S512x1, .f32⟩
  | 14 => ⟨S512, .f32⟩
  | 15 => ⟨S512x1, .f32⟩
  | 16 => ⟨S512, .f32⟩
  | 17 => ⟨S512x1, .f32⟩
  | 18 => ⟨S512, .f32⟩
  | 19 => ⟨S512x1, .f32⟩
  | 20 => ⟨S512, .f32⟩
  | 21 => ⟨S512x1, .f32⟩
  | 22 => ⟨S512, .f32⟩
  | 23 => ⟨S512x1, .f32⟩
  | 24 => ⟨S512, .f32⟩
  | 25 => ⟨S8, .i32⟩
  | 26 => ⟨S8x64, .i32⟩
  | 27 => ⟨S512, .i32⟩
  | 28 => ⟨S_, .f32⟩
  | 29 => ⟨S512, .f32⟩
  | 30 => ⟨S512, .f32⟩
  | 31 => ⟨S512, .f32⟩
  | 32 => ⟨S512, .f32⟩
  | 33 => ⟨S512, .f32⟩
  | 34 => ⟨S512, .i32⟩
  | 35 => ⟨S_, .f32⟩
  | 36 => ⟨S512, .f32⟩
  | 37 => ⟨S512, .f32⟩
  | 38 => ⟨S512, .f32⟩
  | 39 => ⟨S512, .f32⟩
  | 40 => ⟨S512, .f32⟩
  | 41 => ⟨S512, .i32⟩
  | 42 => ⟨S_, .f32⟩
  | 43 => ⟨S512, .f32⟩
  | 44 => ⟨S512, .i1⟩
  | 45 => ⟨S_, .f32⟩
  | 46 => ⟨S512, .f32⟩
  | 47 => ⟨S512, .i1⟩
  | 48 => ⟨S512, .i1⟩
  | 49 => ⟨S_, .f32⟩
  | 50 => ⟨S512, .f32⟩
  | 51 => ⟨S512, .i1⟩
  | 52 => ⟨S512, .i1⟩
  | 53 => ⟨S_, .f32⟩
  | 54 => ⟨S512, .f32⟩
  | 55 => ⟨S512, .i1⟩
  | 56 => ⟨S512, .i1⟩
  | 57 => ⟨S_, .i32⟩
  | 58 => ⟨S512, .i32⟩
  | 59 => ⟨S512, .i1⟩
  | 60 => ⟨S512, .i1⟩
  | 61 => ⟨S_, .i32⟩
  | 62 => ⟨S512, .i32⟩
  | 63 => ⟨S512, .i1⟩
  | 64 => ⟨S512, .i1⟩
  | 65 => ⟨S_, .i32⟩
  | 66 => ⟨S512, .i32⟩
  | 67 => ⟨S512, .i1⟩
  | 68 => ⟨S512, .i1⟩
  | 69 => ⟨S_, .i32⟩
  | 70 => ⟨S512, .i32⟩
  | 71 => ⟨S512, .i1⟩
  | 72 => ⟨S512, .i1⟩
  | 73 => ⟨S_, .i32⟩
  | 74 => ⟨S_, .i32⟩
  | 75 => ⟨S512, .i32⟩
  | 76 => ⟨S512, .i32⟩
  | 77 => ⟨S_, .i32⟩
  | 78 => ⟨S_, .i32⟩
  | 79 => ⟨S512, .i32⟩
  | 80 => ⟨S512, .i32⟩
  | 81 => ⟨S512, .i32⟩
  | 82 => ⟨S_, .f32⟩
  | 83 => ⟨S8x3x250x500, .f32⟩
  | 84 => ⟨S_, .i32⟩
  | 85 => ⟨S512, .i32⟩
  | 86 => ⟨S512, .i1⟩
  | 87 => ⟨S_, .i32⟩
  | 88 => ⟨S512, .i32⟩
  | 89 => ⟨S512, .i32⟩
  | 90 => ⟨S512, .i32⟩
  | 91 => ⟨S_, .i32⟩
  | 92 => ⟨S512, .i32⟩
  | 93 => ⟨S512, .i1⟩
  | 94 => ⟨S_, .i32⟩
  | 95 => ⟨S512, .i32⟩
  | 96 => ⟨S512, .i32⟩
  | 97 => ⟨S512, .i32⟩
  | 98 => ⟨S_, .i32⟩
  | 99 => ⟨S512, .i32⟩
  | 100 => ⟨S512, .i1⟩
  | 101 => ⟨S_, .i32⟩
  | 102 => ⟨S512, .i32⟩
  | 103 => ⟨S512, .i32⟩
  | 104 => ⟨S512, .i32⟩
  | 105 => ⟨S_, .i32⟩
  | 106 => ⟨S512, .i32⟩
  | 107 => ⟨S512, .i1⟩
  | 108 => ⟨S_, .i32⟩
  | 109 => ⟨S512, .i32⟩
  | 110 => ⟨S512, .i32⟩
  | 111 => ⟨S512, .i32⟩
  | 112 => ⟨S512x1, .i32⟩
  | 113 => ⟨S512x1, .i32⟩
  | 114 => ⟨S512x1, .i32⟩
  | 115 => ⟨S512x1, .i32⟩
  | 116 => ⟨S512x4, .i32⟩
  | 117 => ⟨S_, .f32⟩
  | 118 => ⟨S512, .f32⟩
  | 119 => ⟨S8x3x250x500, .f32⟩
  | 120 => ⟨S512, .f32⟩
  | 121 => ⟨S_, .f32⟩
  | 122 => ⟨S512, .f32⟩
  | 123 => ⟨S512, .f32⟩
  | 124 => ⟨S512, .f32⟩
  | 125 => ⟨S512, .f32⟩
  | 126 => ⟨S_, .f32⟩
  | 127 => ⟨S512, .f32⟩
  | _ => ⟨S8x3x250x500, .f32⟩

abbrev hbmTy0_1 (i : Nat) : BufTy := match i % 128 with
  | 0 => ⟨S512, .f32⟩
  | 1 => ⟨S512, .f32⟩
  | 2 => ⟨S_, .f32⟩
  | 3 => ⟨S512, .f32⟩
  | 4 => ⟨S512, .f32⟩
  | 5 => ⟨S512, .f32⟩
  | 6 => ⟨S512, .f32⟩
  | 7 => ⟨S_, .f32⟩
  | 8 => ⟨S512, .f32⟩
  | 9 => ⟨S512, .f32⟩
  | 10 => ⟨S512, .f32⟩
  | 11 => ⟨S512, .f32⟩
  | 12 => ⟨S512, .f32⟩
  | 13 => ⟨S512, .f32⟩
  | 14 => ⟨S512, .f32⟩
  | 15 => ⟨S512, .f32⟩
  | 16 => ⟨S_, .f32⟩
  | 17 => ⟨S512, .f32⟩
  | 18 => ⟨S512, .f32⟩
  | 19 => ⟨S512, .f32⟩
  | 20 => ⟨S_, .f32⟩
  | 21 => ⟨S512, .f32⟩
  | 22 => ⟨S512, .f32⟩
  | 23 => ⟨S512, .f32⟩
  | 24 => ⟨S_, .f32⟩
  | 25 => ⟨S512, .f32⟩
  | 26 => ⟨S512, .f32⟩
  | 27 => ⟨S512, .f32⟩
  | 28 => ⟨S512, .f32⟩
  | 29 => ⟨S512x1, .f32⟩
  | 30 => ⟨S512x1, .f32⟩
  | 31 => ⟨S512x1, .f32⟩
  | 32 => ⟨S512x1, .f32⟩
  | 33 => ⟨S512x1, .f32⟩
  | 34 => ⟨S512x1, .f32⟩
  | 35 => ⟨S512x1, .f32⟩
  | 36 => ⟨S512x7, .f32⟩
  | 37 => ⟨S7, .i32⟩
  | 38 => ⟨S_, .f32⟩
  | 39 => ⟨S8x7x250x500, .f32⟩
  | 40 => ⟨S512x1, .i32⟩
  | 41 => ⟨S1x7, .i32⟩
  | 42 => ⟨S512x1, .i32⟩
  | 43 => ⟨S512x1, .i32⟩
  | 44 => ⟨S_, .i32⟩
  | 45 => ⟨S512x1, .i32⟩
  | 46 => ⟨S512x1, .i1⟩
  | 47 => ⟨S_, .i32⟩
  | 48 => ⟨S512x1, .i32⟩
  | 49 => ⟨S512x1, .i32⟩
  | 50 => ⟨S512x1, .i32⟩
  | 51 => ⟨S_, .i32⟩
  | 52 => ⟨S1x7, .i32⟩
  | 53 => ⟨S1x7, .i1⟩
  | 54 => ⟨S_, .i32⟩
  | 55 => ⟨S1x7, .i32⟩
  | 56 => ⟨S1x7, .i32⟩
  | 57 => ⟨S1x7, .i32⟩
  | 58 => ⟨S_, .i32⟩
  | 59 => ⟨S512x1, .i32⟩
  | 60 => ⟨S512x1, .i1⟩
  | 61 => ⟨S_, .i32⟩
  | 62 => ⟨S512x1, .i32⟩
  | 63 => ⟨S512x1, .i32⟩
  | 64 => ⟨S512x1, .i32⟩
  | 65 => ⟨S_, .i32⟩
  | 66 => ⟨S512x1, .i32⟩
  | 67 => ⟨S512x1, .i1⟩
  | 68 => ⟨S_, .i32⟩
  | 69 => ⟨S512x1, .i32⟩
  | 70 => ⟨S512x1, .i32⟩
  | 71 => ⟨S512x1, .i32⟩
  | 72 => ⟨S512x7, .i32⟩
  | 73 => ⟨S512x7, .i32⟩
  | 74 => ⟨S512x7, .i32⟩
  | 75 => ⟨S512x7, .i32⟩
  | 76 => ⟨S512x7x1, .i32⟩
  | 77 => ⟨S512x7x1, .i32⟩
  | 78 => ⟨S512x7x1, .i32⟩
  | 79 => ⟨S512x7x1, .i32⟩
  | 80 => ⟨S512x7x4, .i32⟩
  | 81 => ⟨S8x7x250x500, .f32⟩
  | 82 => ⟨S512, .f32⟩
  | 83 => ⟨S_, .f32⟩
  | 84 => ⟨S512, .f32⟩
  | 85 => ⟨S512, .i1⟩
  | 86 => ⟨S_, .i32⟩
  | 87 => ⟨S_, .i32⟩
  | 88 => ⟨S512, .i32⟩
  | 89 => ⟨S512, .i32⟩
  | 90 => ⟨S512, .i32⟩
  | 91 => ⟨S512, .i32⟩
  | 92 => ⟨S_, .f32⟩
  | 93 => ⟨S8x2x250x500, .f32⟩
  | 94 => ⟨S_, .i32⟩
  | 95 => ⟨S512, .i32⟩
  | 96 => ⟨S512, .i1⟩
  | 97 => ⟨S_, .i32⟩
  | 98 => ⟨S512, .i32⟩
  | 99 => ⟨S512, .i32⟩
  | 100 => ⟨S512, .i32⟩
  | 101 => ⟨S_, .i32⟩
  | 102 => ⟨S512, .i32⟩
  | 103 => ⟨S512, .i1⟩
  | 104 => ⟨S_, .i32⟩
  | 105 => ⟨S512, .i32⟩
  | 106 => ⟨S512, .i32⟩
  | 107 => ⟨S512, .i32⟩
  | 108 => ⟨S_, .i32⟩
  | 109 => ⟨S512, .i32⟩
  | 110 => ⟨S512, .i1⟩
  | 111 => ⟨S_, .i32⟩
  | 112 => ⟨S512, .i32⟩
  | 113 => ⟨S512, .i32⟩
  | 114 => ⟨S512, .i32⟩
  | 115 => ⟨S_, .i32⟩
  | 116 => ⟨S512, .i32⟩
  | 117 => ⟨S512, .i1⟩
  | 118 => ⟨S_, .i32⟩
  | 119 => ⟨S512, .i32⟩
  | 120 => ⟨S512, .i32⟩
  | 121 => ⟨S512, .i32⟩
  | 122 => ⟨S512x1, .i32⟩
  | 123 => ⟨S512x1, .i32⟩
  | 124 => ⟨S512x1, .i32⟩
  | 125 => ⟨S512x1, .i32⟩
  | 126 => ⟨S512x4, .i32⟩
  | 127 => ⟨S_, .f32⟩
  | _ => ⟨S8x3x250x500, .f32⟩

abbrev hbmTy0_2 (i : Nat) : BufTy := match i % 128 with
  | 0 => ⟨S512, .f32⟩
  | 1 => ⟨S8x2x250x500, .f32⟩
  | 2 => ⟨S_, .i1⟩
  | 3 => ⟨S8x250x500, .i1⟩
  | 4 => ⟨S_, .i32⟩
  | 5 => ⟨S512, .i32⟩
  | 6 => ⟨S512, .i1⟩
  | 7 => ⟨S_, .i32⟩
  | 8 => ⟨S512, .i32⟩
  | 9 => ⟨S512, .i32⟩
  | 10 => ⟨S512, .i32⟩
  | 11 => ⟨S_, .i32⟩
  | 12 => ⟨S512, .i32⟩
  | 13 => ⟨S512, .i1⟩
  | 14 => ⟨S_, .i32⟩
  | 15 => ⟨S512, .i32⟩
  | 16 => ⟨S512, .i32⟩
  | 17 => ⟨S512, .i32⟩
  | 18 => ⟨S_, .i32⟩
  | 19 => ⟨S512, .i32⟩
  | 20 => ⟨S512, .i1⟩
  | 21 => ⟨S_, .i32⟩
  | 22 => ⟨S512, .i32⟩
  | 23 => ⟨S512, .i32⟩
  | 24 => ⟨S512, .i32⟩
  | 25 => ⟨S512x1, .i32⟩
  | 26 => ⟨S512x1, .i32⟩
  | 27 => ⟨S512x1, .i32⟩
  | 28 => ⟨S512x3, .i32⟩
  | 29 => ⟨S_, .i1⟩
  | 30 => ⟨S512, .i1⟩
  | 31 => ⟨S8x250x500, .i1⟩
  | 32 => ⟨S3, .i32⟩
  | 33 => ⟨S_, .i32⟩
  | 34 => ⟨S3, .i32⟩
  | 35 => ⟨S3, .i32⟩
  | 36 => ⟨S3x3, .i32⟩
  | 37 => ⟨S3x3, .i32⟩
  | 38 => ⟨S9, .i32⟩
  | 39 => ⟨S9, .i32⟩
  | 40 => ⟨S512x1, .i1⟩
  | 41 => ⟨S512x1, .i32⟩
  | 42 => ⟨S1x9, .i32⟩
  | 43 => ⟨S512x9, .i32⟩
  | 44 => ⟨S512x9, .i32⟩
  | 45 => ⟨S512x9, .i32⟩
  | 46 => ⟨S_, .i32⟩
  | 47 => ⟨S_, .i32⟩
  | 48 => ⟨S_, .i32⟩
  | 49 => ⟨S512x9, .i32⟩
  | 50 => ⟨S512x9, .i32⟩
  | 51 => ⟨S_, .i32⟩
  | 52 => ⟨S512x9, .i32⟩
  | 53 => ⟨S512x9, .i32⟩
  | 54 => ⟨S_, .i32⟩
  | 55 => ⟨S_, .i32⟩
  | 56 => ⟨S512x9, .i1⟩
  | 57 => ⟨S512x9, .i32⟩
  | 58 => ⟨S512x9, .i32⟩
  | 59 => ⟨S512x1, .i1⟩
  | 60 => ⟨S512x1, .i32⟩
  | 61 => ⟨S1x9, .i32⟩
  | 62 => ⟨S512x9, .i32⟩
  | 63 => ⟨S512x9, .i32⟩
  | 64 => ⟨S512x9, .i32⟩
  | 65 => ⟨S_, .i32⟩
  | 66 => ⟨S_, .i32⟩
  | 67 => ⟨S_, .i32⟩
  | 68 => ⟨S512x9, .i32⟩
  | 69 => ⟨S512x9, .i32⟩
  | 70 => ⟨S_, .i32⟩
  | 71 => ⟨S512x9, .i32⟩
  | 72 => ⟨S512x9, .i32⟩
  | 73 => ⟨S_, .i32⟩
  | 74 => ⟨S_, .i32⟩
  | 75 => ⟨S512x9, .i1⟩
  | 76 => ⟨S512x9, .i32⟩
  | 77 => ⟨S512x9, .i32⟩
  | 78 => ⟨S_, .i1⟩
  | 79 => ⟨S8x3x250x500, .i1⟩
  | 80 => ⟨S512x1, .i32⟩
  | 81 => ⟨S512x1, .i32⟩
  | 82 => ⟨S_, .i32⟩
  | 83 => ⟨S512x1, .i32⟩
  | 84 => ⟨S512x1, .i1⟩
  | 85 => ⟨S_, .i32⟩
  | 86 => ⟨S512x1, .i32⟩
  | 87 => ⟨S512x1, .i32⟩
  | 88 => ⟨S512x1, .i32⟩
  | 89 => ⟨S_, .i32⟩
  | 90 => ⟨S512x1, .i32⟩
  | 91 => ⟨S512x1, .i1⟩
  | 92 => ⟨S_, .i32⟩
  | 93 => ⟨S512x1, .i32⟩
  | 94 => ⟨S512x1, .i32⟩
  | 95 => ⟨S512x1, .i32⟩
  | 96 => ⟨S_, .i32⟩
  | 97 => ⟨S512x9, .i32⟩
  | 98 => ⟨S512x9, .i1⟩
  | 99 => ⟨S_, .i32⟩
  | 100 => ⟨S512x9, .i32⟩
  | 101 => ⟨S512x9, .i32⟩
  | 102 => ⟨S512x9, .i32⟩
  | 103 => ⟨S_, .i32⟩
  | 104 => ⟨S512x9, .i32⟩
  | 105 => ⟨S512x9, .i1⟩
  | 106 => ⟨S_, .i32⟩
  | 107 => ⟨S512x9, .i32⟩
  | 108 => ⟨S512x9, .i32⟩
  | 109 => ⟨S512x9, .i32⟩
  | 110 => ⟨S512x9, .i32⟩
  | 111 => ⟨S512x9, .i32⟩
  | 112 => ⟨S512x9x1, .i32⟩
  | 113 => ⟨S512x9x1, .i32⟩
  | 114 => ⟨S512x9x1, .i32⟩
  | 115 => ⟨S512x9x1, .i32⟩
  | 116 => ⟨S512x9x4, .i32⟩
  | 117 => ⟨S_, .i1⟩
  | 118 => ⟨S512x9, .i1⟩
  | 119 => ⟨S8x3x250x500, .i1⟩
  | 120 => ⟨S_, .i32⟩
  | 121 => ⟨S512, .i32⟩
  | 122 => ⟨S512, .i1⟩
  | 123 => ⟨S_, .i32⟩
  | 124 => ⟨S512, .i32⟩
  | 125 => ⟨S512, .i32⟩
  | 126 => ⟨S512, .i32⟩
  | 127 => ⟨S_, .i32⟩
  | _ => ⟨S8x3x250x500, .f32⟩

abbrev hbmTy0_3 (i : Nat) : BufTy := match i % 128 with
  | 0 => ⟨S512, .i32⟩
  | 1 => ⟨S512, .i1⟩
  | 2 => ⟨S_, .i32⟩
  | 3 => ⟨S512, .i32⟩
  | 4 => ⟨S512, .i32⟩
  | 5 => ⟨S512, .i32⟩
  | 6 => ⟨S_, .i32⟩
  | 7 => ⟨S512, .i32⟩
  | 8 => ⟨S512, .i1⟩
  | 9 => ⟨S_, .i32⟩
  | 10 => ⟨S512, .i32⟩
  | 11 => ⟨S512, .i32⟩
  | 12 => ⟨S512, .i32⟩
  | 13 => ⟨S_, .i32⟩
  | 14 => ⟨S512, .i32⟩
  | 15 => ⟨S512, .i1⟩
  | 16 => ⟨S_, .i32⟩
  | 17 => ⟨S512, .i32⟩
  | 18 => ⟨S512, .i32⟩
  | 19 => ⟨S512, .i32⟩
  | 20 => ⟨S512x1, .i32⟩
  | 21 => ⟨S512x1, .i32⟩
  | 22 => ⟨S512x1, .i32⟩
  | 23 => ⟨S512x1, .i32⟩
  | 24 => ⟨S512x4, .i32⟩
  | 25 => ⟨S_, .i1⟩
  | 26 => ⟨S512, .i1⟩
  | 27 => ⟨S8x3x250x500, .i1⟩
  | 28 => ⟨S8x3x250x500, .f32⟩
  | 29 => ⟨S_, .f32⟩
  | 30 => ⟨S8x3x250x500, .f32⟩
  | 31 => ⟨S8x3x250x500, .f32⟩
  | 32 => ⟨S8x3x250x500, .f32⟩
  | 33 => ⟨S8x3x250x500, .f32⟩
  | 34 => ⟨S8x3x250x500, .i1⟩
  | 35 => ⟨S8x3x250x500, .f32⟩
  | 36 => ⟨S8x3x250x500, .f32⟩
  | 37 => ⟨S8x3x250x500, .f32⟩
  | 38 => ⟨S8x3x250x500, .f32⟩
  | 39 => ⟨S8x3x250x500, .f32⟩
  | 40 => ⟨S8x3x250x500, .f32⟩
  | 41 => ⟨S8x3x250x500, .f32⟩
  | 42 => ⟨S8x3x250x500, .f32⟩
  | 43 => ⟨S8x3x250x500, .f32⟩
  | 44 => ⟨S8x3x250x500, .f32⟩
  | 45 => ⟨S_, .f32⟩
  | 46 => ⟨S8x3x250x500, .f32⟩
  | 47 => ⟨S8x3x250x500, .f32⟩
  | 48 => ⟨S8x3x250x500, .f32⟩
  | 49 => ⟨S8x3x250x500, .f32⟩
  | 50 => ⟨S_, .f32⟩
  | 51 => ⟨S8x3x250x500, .f32⟩
  | 52 => ⟨S8x3x250x500, .f32⟩
  | 53 => ⟨S8x3x250x500, .f32⟩
  | 54 => ⟨S8x3x250x500, .f32⟩
  | 55 => ⟨S8x3x250x500, .i1⟩
  | 56 => ⟨S8x3x250x500, .f32⟩
  | 57 => ⟨S8x3x250x500, .f32⟩
  | 58 => ⟨S8x3x250x500, .f32⟩
  | 59 => ⟨S8x3x250x500, .f32⟩
  | 60 => ⟨S8x3x250x500, .f32⟩
  | 61 => ⟨S8x3x250x500, .f32⟩
  | 62 => ⟨S8x3x250x500, .f32⟩
  | 63 => ⟨S8x3x250x500, .f32⟩
  | 64 => ⟨S8x3x250x500, .f32⟩
  | 65 => ⟨S8x3x250x500, .f32⟩
  | 66 => ⟨S8x3x250x500, .f32⟩
  | 67 => ⟨S8x3x250x500, .f32⟩
  | 68 => ⟨S8x3x250x500, .f32⟩
  | 69 => ⟨S8x3x250x500, .f32⟩
  | 70 => ⟨S_, .f32⟩
  | 71 => ⟨S8x3x250x500, .f32⟩
  | 72 => ⟨S8x3x250x500, .f32⟩
  | 73 => ⟨S_, .f32⟩
  | 74 => ⟨S8x3x250x500, .f32⟩
  | 75 => ⟨S8x3x250x500, .f32⟩
  | 76 => ⟨S8x3x250x500, .f32⟩
  | 77 => ⟨S_, .f32⟩
  | 78 => ⟨S8x3x250x500, .f32⟩
  | 79 => ⟨S8x3x250x500, .f32⟩
  | 80 => ⟨S_, .f32⟩
  | 81 => ⟨S8x3x250x500, .f32⟩
  | 82 => ⟨S8x3x250x500, .f32⟩
  | 83 => ⟨S8x3x250x500, .f32⟩
  | 84 => ⟨S8x3x250x500, .f32⟩
  | 85 => ⟨S_, .f32⟩
  | 86 => ⟨S8x3x250x500, .f32⟩
  | 87 => ⟨S8x3x250x500, .f32⟩
  | 88 => ⟨S_, .f32⟩
  | 89 => ⟨S8x3x250x500, .f32⟩
  | 90 => ⟨S8x3x250x500, .f32⟩
  | 91 => ⟨S_, .f32⟩
  | 92 => ⟨S8x3x250x500, .f32⟩
  | 93 => ⟨S8x3x250x500, .f32⟩
  | 94 => ⟨S8x3x250x500, .f32⟩
  | 95 => ⟨S_, .f32⟩
  | 96 => ⟨S8x3x250x500, .f32⟩
  | 97 => ⟨S8x3x250x500, .f32⟩
  | 98 => ⟨S_, .f32⟩
  | 99 => ⟨S8x3x250x500, .f32⟩
  | 100 => ⟨S8x3x250x500, .f32⟩
  | 101 => ⟨S8x3x250x500, .f32⟩
  | 102 => ⟨S8x3x250x500, .f32⟩
  | 103 => ⟨S3, .i32⟩
  | 104 => ⟨S_, .i32⟩
  | 105 => ⟨S3, .i32⟩
  | 106 => ⟨S3, .i1⟩
  | 107 => ⟨S_, .f32⟩
  | 108 => ⟨S_, .f32⟩
  | 109 => ⟨S3, .f32⟩
  | 110 => ⟨S3, .f32⟩
  | 111 => ⟨S3, .f32⟩
  | 112 => ⟨S1x3x1x1, .f32⟩
  | 113 => ⟨S_, .f32⟩
  | 114 => ⟨S8x3x250x500, .f32⟩
  | 115 => ⟨S8x3x250x500, .i1⟩
  | 116 => ⟨S8x3x250x500, .f32⟩
  | 117 => ⟨S8x3x250x500, .f32⟩
  | 118 => ⟨S8x3x250x500, .f32⟩
  | 119 => ⟨S8x3x250x500, .f32⟩
  | 120 => ⟨S8x3x250x500, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8x3x250x500, .f32⟩

abbrev hbmTy0_4 (i : Nat) : BufTy := match i % 128 with
  | 0 => ⟨S8x7x250x500, .f32⟩
  | 1 => ⟨S8x7x250x500, .f32⟩
  | 2 => ⟨S_, .f32⟩
  | 3 => ⟨S8x7x250x500, .f32⟩
  | 4 => ⟨S8x7x250x500, .i1⟩
  | 5 => ⟨S_, .f32⟩
  | 6 => ⟨S8x7x250x500, .f32⟩
  | 7 => ⟨S8x7x250x500, .f32⟩
  | 8 => ⟨S8x7x250x500, .f32⟩
  | 9 => ⟨S_, .f32⟩
  | 10 => ⟨S8x7x250x500, .f32⟩
  | 11 => ⟨S8x7x250x500, .f32⟩
  | 12 => ⟨S8x7x250x500, .f32⟩
  | 13 => ⟨S8x1x250x500, .i1⟩
  | 14 => ⟨S8x1x250x500, .f32⟩
  | 15 => ⟨S8x250x500, .i32⟩
  | 16 => ⟨S_, .i32⟩
  | 17 => ⟨S_, .i32⟩
  | 18 => ⟨S_, .f32⟩
  | 19 => ⟨S_, .f32⟩
  | 20 => ⟨S_, .f32⟩
  | 21 => ⟨S_, .f32⟩
  | 22 => ⟨S_, .i1⟩
  | 23 => ⟨S8x7x250x500, .f32⟩
  | 24 => ⟨S8x7x250x500, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S8x2x250x500, .f32⟩
  | 34 => ⟨S_, .f32⟩
  | 35 => ⟨S8x2x250x500, .f32⟩
  | 36 => ⟨S8x2x250x500, .f32⟩
  | 37 => ⟨S8x2x250x500, .f32⟩
  | 38 => ⟨S8x2x250x500, .f32⟩
  | 39 => ⟨S8x2x250x500, .i1⟩
  | 40 => ⟨S8x2x250x500, .f32⟩
  | 41 => ⟨S8x2x250x500, .f32⟩
  | 42 => ⟨S8x2x250x500, .f32⟩
  | 43 => ⟨S8x2x250x500, .f32⟩
  | 44 => ⟨S8x2x250x500, .f32⟩
  | 45 => ⟨S8x2x250x500, .f32⟩
  | 46 => ⟨S8x2x250x500, .f32⟩
  | 47 => ⟨S8x2x250x500, .f32⟩
  | 48 => ⟨S8x2x250x500, .f32⟩
  | 49 => ⟨S8x2x250x500, .f32⟩
  | 50 => ⟨S_, .f32⟩
  | 51 => ⟨S8x2x250x500, .f32⟩
  | 52 => ⟨S8x2x250x500, .f32⟩
  | 53 => ⟨S8x2x250x500, .f32⟩
  | 54 => ⟨S8x2x250x500, .f32⟩
  | 55 => ⟨S_, .f32⟩
  | 56 => ⟨S8x2x250x500, .f32⟩
  | 57 => ⟨S8x2x250x500, .f32⟩
  | 58 => ⟨S8x2x250x500, .f32⟩
  | 59 => ⟨S8x2x250x500, .f32⟩
  | 60 => ⟨S8x2x250x500, .i1⟩
  | 61 => ⟨S8x2x250x500, .f32⟩
  | 62 => ⟨S8x2x250x500, .f32⟩
  | 63 => ⟨S8x2x250x500, .f32⟩
  | 64 => ⟨S8x2x250x500, .f32⟩
  | 65 => ⟨S8x2x250x500, .f32⟩
  | 66 => ⟨S8x2x250x500, .f32⟩
  | 67 => ⟨S8x2x250x500, .f32⟩
  | 68 => ⟨S8x2x250x500, .f32⟩
  | 69 => ⟨S8x2x250x500, .f32⟩
  | 70 => ⟨S8x2x250x500, .f32⟩
  | 71 => ⟨S8x2x250x500, .f32⟩
  | 72 => ⟨S8x2x250x500, .f32⟩
  | 73 => ⟨S8x1x250x500, .i1⟩
  | 74 => ⟨S8x1x250x500, .f32⟩
  | 75 => ⟨S8x250x500, .i32⟩
  | 76 => ⟨S_, .i32⟩
  | 77 => ⟨S_, .i32⟩
  | 78 => ⟨S_, .f32⟩
  | 79 => ⟨S_, .f32⟩
  | 80 => ⟨S_, .f32⟩
  | 81 => ⟨S_, .f32⟩
  | 82 => ⟨S_, .i1⟩
  | 83 => ⟨S8x2x250x500, .f32⟩
  | 84 => ⟨S8x2x250x500, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S1, .f32⟩
  | 102 => ⟨S1, .f32⟩
  | 103 => ⟨S1, .f32⟩
  | 104 => ⟨S1, .f32⟩
  | 105 => ⟨S4, .f32⟩
  | 106 => ⟨S1x1x4, .f32⟩
  | _ => ⟨S8x3x250x500, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x3x250x500, .f32⟩

abbrev bufTy : (tb : Table) → Fin (tcTables nBuf tb) → BufTy
  | .hbm, ⟨i, _⟩ => hbmTy i
  | _, _ => ⟨S8x3x250x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_5 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_c : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_c_7 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_c_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_c_10 : Ref sig .tc := ⟨.hbm, 73, rfl⟩
abbrev main_call0_v0 : Ref sig .tc := ⟨.hbm, 74, rfl⟩
abbrev main_call0_v1 : Ref sig .tc := ⟨.hbm, 75, rfl⟩
abbrev main_v56 : Ref sig .tc := ⟨.hbm, 76, rfl⟩
abbrev main_c_11 : Ref sig .tc := ⟨.hbm, 77, rfl⟩
abbrev main_call1_v0 : Ref sig .tc := ⟨.hbm, 78, rfl⟩
abbrev main_call1_v1 : Ref sig .tc := ⟨.hbm, 79, rfl⟩
abbrev main_v57 : Ref sig .tc := ⟨.hbm, 80, rfl⟩
abbrev main_v58 : Ref sig .tc := ⟨.hbm, 81, rfl⟩
abbrev main_cst_12 : Ref sig .tc := ⟨.hbm, 82, rfl⟩
abbrev main_v59 : Ref sig .tc := ⟨.hbm, 83, rfl⟩
abbrev main_c_13 : Ref sig .tc := ⟨.hbm, 84, rfl⟩
abbrev main_v60 : Ref sig .tc := ⟨.hbm, 85, rfl⟩
abbrev main_v61 : Ref sig .tc := ⟨.hbm, 86, rfl⟩
abbrev main_c_14 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_15 : Ref sig .tc := ⟨.hbm, 91, rfl⟩
abbrev main_v65 : Ref sig .tc := ⟨.hbm, 92, rfl⟩
abbrev main_v66 : Ref sig .tc := ⟨.hbm, 93, rfl⟩
abbrev main_c_16 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_c_17 : Ref sig .tc := ⟨.hbm, 98, rfl⟩
abbrev main_v70 : Ref sig .tc := ⟨.hbm, 99, rfl⟩
abbrev main_v71 : Ref sig .tc := ⟨.hbm, 100, rfl⟩
abbrev main_c_18 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_c_19 : Ref sig .tc := ⟨.hbm, 105, rfl⟩
abbrev main_v75 : Ref sig .tc := ⟨.hbm, 106, rfl⟩
abbrev main_v76 : Ref sig .tc := ⟨.hbm, 107, rfl⟩
abbrev main_c_20 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_21 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_cst_22 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_cst_23 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_24 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_25 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_26 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_cst_27 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_cst_28 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_cst_29 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_c_30 : Ref sig .tc := ⟨.hbm, 172, rfl⟩
abbrev main_v131 : Ref sig .tc := ⟨.hbm, 173, rfl⟩
abbrev main_v132 : Ref sig .tc := ⟨.hbm, 174, rfl⟩
abbrev main_c_31 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_c_32 : Ref sig .tc := ⟨.hbm, 179, rfl⟩
abbrev main_v136 : Ref sig .tc := ⟨.hbm, 180, rfl⟩
abbrev main_v137 : Ref sig .tc := ⟨.hbm, 181, rfl⟩
abbrev main_c_33 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_c_34 : Ref sig .tc := ⟨.hbm, 186, rfl⟩
abbrev main_v141 : Ref sig .tc := ⟨.hbm, 187, rfl⟩
abbrev main_v142 : Ref sig .tc := ⟨.hbm, 188, rfl⟩
abbrev main_c_35 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_c_36 : Ref sig .tc := ⟨.hbm, 193, rfl⟩
abbrev main_v146 : Ref sig .tc := ⟨.hbm, 194, rfl⟩
abbrev main_v147 : Ref sig .tc := ⟨.hbm, 195, rfl⟩
abbrev main_c_37 : Ref sig .tc := ⟨.hbm, 196, rfl⟩
abbrev main_v148 : Ref sig .tc := ⟨.hbm, 197, rfl⟩
abbrev main_v149 : Ref sig .tc := ⟨.hbm, 198, rfl⟩
abbrev main_v150 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_38 : Ref sig .tc := ⟨.hbm, 211, rfl⟩
abbrev main_v162 : Ref sig .tc := ⟨.hbm, 212, rfl⟩
abbrev main_v163 : Ref sig .tc := ⟨.hbm, 213, rfl⟩
abbrev main_c_39 : Ref sig .tc := ⟨.hbm, 214, rfl⟩
abbrev main_c_40 : Ref sig .tc := ⟨.hbm, 215, rfl⟩
abbrev main_call2_v0 : Ref sig .tc := ⟨.hbm, 216, rfl⟩
abbrev main_call2_v1 : Ref sig .tc := ⟨.hbm, 217, rfl⟩
abbrev main_v164 : Ref sig .tc := ⟨.hbm, 218, rfl⟩
abbrev main_v165 : Ref sig .tc := ⟨.hbm, 219, rfl⟩
abbrev main_cst_41 : Ref sig .tc := ⟨.hbm, 220, rfl⟩
abbrev main_v166 : Ref sig .tc := ⟨.hbm, 221, rfl⟩
abbrev main_c_42 : Ref sig .tc := ⟨.hbm, 222, rfl⟩
abbrev main_v167 : Ref sig .tc := ⟨.hbm, 223, rfl⟩
abbrev main_v168 : Ref sig .tc := ⟨.hbm, 224, rfl⟩
abbrev main_c_43 : Ref sig .tc := ⟨.hbm, 225, rfl⟩
abbrev main_v169 : Ref sig .tc := ⟨.hbm, 226, rfl⟩
abbrev main_v170 : Ref sig .tc := ⟨.hbm, 227, rfl⟩
abbrev main_v171 : Ref sig .tc := ⟨.hbm, 228, rfl⟩
abbrev main_c_44 : Ref sig .tc := ⟨.hbm, 229, rfl⟩
abbrev main_v172 : Ref sig .tc := ⟨.hbm, 230, rfl⟩
abbrev main_v173 : Ref sig .tc := ⟨.hbm, 231, rfl⟩
abbrev main_c_45 : Ref sig .tc := ⟨.hbm, 232, rfl⟩
abbrev main_v174 : Ref sig .tc := ⟨.hbm, 233, rfl⟩
abbrev main_v175 : Ref sig .tc := ⟨.hbm, 234, rfl⟩
abbrev main_v176 : Ref sig .tc := ⟨.hbm, 235, rfl⟩
abbrev main_c_46 : Ref sig .tc := ⟨.hbm, 236, rfl⟩
abbrev main_v177 : Ref sig .tc := ⟨.hbm, 237, rfl⟩
abbrev main_v178 : Ref sig .tc := ⟨.hbm, 238, rfl⟩
abbrev main_c_47 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_c_48 : Ref sig .tc := ⟨.hbm, 243, rfl⟩
abbrev main_v182 : Ref sig .tc := ⟨.hbm, 244, rfl⟩
abbrev main_v183 : Ref sig .tc := ⟨.hbm, 245, rfl⟩
abbrev main_c_49 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_cst_50 : Ref sig .tc := ⟨.hbm, 255, rfl⟩
abbrev main_v192 : Ref sig .tc := ⟨.hbm, 256, rfl⟩
abbrev main_v193 : Ref sig .tc := ⟨.hbm, 257, rfl⟩
abbrev main_c_51 : Ref sig .tc := ⟨.hbm, 258, rfl⟩
abbrev main_v194 : Ref sig .tc := ⟨.hbm, 259, rfl⟩
abbrev main_c_52 : Ref sig .tc := ⟨.hbm, 260, rfl⟩
abbrev main_v195 : Ref sig .tc := ⟨.hbm, 261, rfl⟩
abbrev main_v196 : Ref sig .tc := ⟨.hbm, 262, rfl⟩
abbrev main_c_53 : Ref sig .tc := ⟨.hbm, 263, rfl⟩
abbrev main_v197 : Ref sig .tc := ⟨.hbm, 264, rfl⟩
abbrev main_v198 : Ref sig .tc := ⟨.hbm, 265, rfl⟩
abbrev main_v199 : Ref sig .tc := ⟨.hbm, 266, rfl⟩
abbrev main_c_54 : Ref sig .tc := ⟨.hbm, 267, rfl⟩
abbrev main_v200 : Ref sig .tc := ⟨.hbm, 268, rfl⟩
abbrev main_v201 : Ref sig .tc := ⟨.hbm, 269, rfl⟩
abbrev main_c_55 : Ref sig .tc := ⟨.hbm, 270, rfl⟩
abbrev main_v202 : Ref sig .tc := ⟨.hbm, 271, rfl⟩
abbrev main_v203 : Ref sig .tc := ⟨.hbm, 272, rfl⟩
abbrev main_v204 : Ref sig .tc := ⟨.hbm, 273, rfl⟩
abbrev main_c_56 : Ref sig .tc := ⟨.hbm, 274, rfl⟩
abbrev main_v205 : Ref sig .tc := ⟨.hbm, 275, rfl⟩
abbrev main_v206 : Ref sig .tc := ⟨.hbm, 276, rfl⟩
abbrev main_c_57 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_c_58 : Ref sig .tc := ⟨.hbm, 285, rfl⟩
abbrev main_v214 : Ref sig .tc := ⟨.hbm, 286, rfl⟩
abbrev main_v215 : Ref sig .tc := ⟨.hbm, 287, rfl⟩
abbrev main_v216 : Ref sig .tc := ⟨.hbm, 288, rfl⟩
abbrev main_c_59 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_v228 : Ref sig .tc := ⟨.hbm, 301, rfl⟩
abbrev main_c_60 : Ref sig .tc := ⟨.hbm, 302, rfl⟩
abbrev main_c_61 : Ref sig .tc := ⟨.hbm, 303, rfl⟩
abbrev main_call3_v0 : Ref sig .tc := ⟨.hbm, 304, rfl⟩
abbrev main_call3_v1 : Ref sig .tc := ⟨.hbm, 305, rfl⟩
abbrev main_call3_v2 : Ref sig .tc := ⟨.hbm, 306, rfl⟩
abbrev main_call3_v3 : Ref sig .tc := ⟨.hbm, 307, rfl⟩
abbrev main_call3_v4 : Ref sig .tc := ⟨.hbm, 308, rfl⟩
abbrev main_v229 : Ref sig .tc := ⟨.hbm, 309, rfl⟩
abbrev main_c_62 : Ref sig .tc := ⟨.hbm, 310, rfl⟩
abbrev main_call4_v0 : Ref sig .tc := ⟨.hbm, 311, rfl⟩
abbrev main_call4_v1 : Ref sig .tc := ⟨.hbm, 312, rfl⟩
abbrev main_call4_v2 : Ref sig .tc := ⟨.hbm, 313, rfl⟩
abbrev main_v230 : Ref sig .tc := ⟨.hbm, 314, rfl⟩
abbrev main_v231 : Ref sig .tc := ⟨.hbm, 315, rfl⟩
abbrev main_v232 : Ref sig .tc := ⟨.hbm, 316, rfl⟩
abbrev main_v233 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_c_63 : Ref sig .tc := ⟨.hbm, 321, rfl⟩
abbrev main_c_64 : Ref sig .tc := ⟨.hbm, 322, rfl⟩
abbrev main_call5_v0 : Ref sig .tc := ⟨.hbm, 323, rfl⟩
abbrev main_call5_v1 : Ref sig .tc := ⟨.hbm, 324, rfl⟩
abbrev main_call5_v2 : Ref sig .tc := ⟨.hbm, 325, rfl⟩
abbrev main_call5_v3 : Ref sig .tc := ⟨.hbm, 326, rfl⟩
abbrev main_call5_v4 : Ref sig .tc := ⟨.hbm, 327, rfl⟩
abbrev main_v237 : Ref sig .tc := ⟨.hbm, 328, rfl⟩
abbrev main_c_65 : Ref sig .tc := ⟨.hbm, 329, rfl⟩
abbrev main_call6_v0 : Ref sig .tc := ⟨.hbm, 330, rfl⟩
abbrev main_call6_v1 : Ref sig .tc := ⟨.hbm, 331, rfl⟩
abbrev main_call6_v2 : Ref sig .tc := ⟨.hbm, 332, rfl⟩
abbrev main_v238 : Ref sig .tc := ⟨.hbm, 333, rfl⟩
abbrev main_c_66 : Ref sig .tc := ⟨.hbm, 334, rfl⟩
abbrev main_v239 : Ref sig .tc := ⟨.hbm, 335, rfl⟩
abbrev main_v240 : Ref sig .tc := ⟨.hbm, 336, rfl⟩
abbrev main_v241 : Ref sig .tc := ⟨.hbm, 337, rfl⟩
abbrev main_c_67 : Ref sig .tc := ⟨.hbm, 338, rfl⟩
abbrev main_v242 : Ref sig .tc := ⟨.hbm, 339, rfl⟩
abbrev main_v243 : Ref sig .tc := ⟨.hbm, 340, rfl⟩
abbrev main_c_68 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_c_69 : Ref sig .tc := ⟨.hbm, 345, rfl⟩
abbrev main_v247 : Ref sig .tc := ⟨.hbm, 346, rfl⟩
abbrev main_v248 : Ref sig .tc := ⟨.hbm, 347, rfl⟩
abbrev main_c_70 : Ref sig .tc := ⟨.hbm, 348, rfl⟩
abbrev main_v249 : Ref sig .tc := ⟨.hbm, 349, rfl⟩
abbrev main_v250 : Ref sig .tc := ⟨.hbm, 350, rfl⟩
abbrev main_v251 : Ref sig .tc := ⟨.hbm, 351, rfl⟩
abbrev main_c_71 : Ref sig .tc := ⟨.hbm, 352, rfl⟩
abbrev main_v252 : Ref sig .tc := ⟨.hbm, 353, rfl⟩
abbrev main_v253 : Ref sig .tc := ⟨.hbm, 354, rfl⟩
abbrev main_c_72 : Ref sig .tc := ⟨.hbm, 355, rfl⟩
abbrev main_v254 : Ref sig .tc := ⟨.hbm, 356, rfl⟩
abbrev main_v255 : Ref sig .tc := ⟨.hbm, 357, rfl⟩
abbrev main_v256 : Ref sig .tc := ⟨.hbm, 358, rfl⟩
abbrev main_c_73 : Ref sig .tc := ⟨.hbm, 359, rfl⟩
abbrev main_v257 : Ref sig .tc := ⟨.hbm, 360, rfl⟩
abbrev main_v258 : Ref sig .tc := ⟨.hbm, 361, rfl⟩
abbrev main_c_74 : Ref sig .tc := ⟨.hbm, 362, rfl⟩
abbrev main_v259 : Ref sig .tc := ⟨.hbm, 363, rfl⟩
abbrev main_v260 : Ref sig .tc := ⟨.hbm, 364, rfl⟩
abbrev main_v261 : Ref sig .tc := ⟨.hbm, 365, rfl⟩
abbrev main_v262 : Ref sig .tc := ⟨.hbm, 366, rfl⟩
abbrev main_v263 : Ref sig .tc := ⟨.hbm, 367, rfl⟩
abbrev main_v264 : Ref sig .tc := ⟨.hbm, 368, rfl⟩
abbrev main_v265 : Ref sig .tc := ⟨.hbm, 369, rfl⟩
abbrev main_v266 : Ref sig .tc := ⟨.hbm, 370, rfl⟩
abbrev main_v267 : Ref sig .tc := ⟨.hbm, 371, rfl⟩
abbrev main_v268 : Ref sig .tc := ⟨.hbm, 372, rfl⟩
abbrev main_c_75 : Ref sig .tc := ⟨.hbm, 373, rfl⟩
abbrev main_v269 : Ref sig .tc := ⟨.hbm, 374, rfl⟩
abbrev main_v270 : Ref sig .tc := ⟨.hbm, 375, rfl⟩
abbrev main_c_76 : Ref sig .tc := ⟨.hbm, 376, rfl⟩
abbrev main_v271 : Ref sig .tc := ⟨.hbm, 377, rfl⟩
abbrev main_v272 : Ref sig .tc := ⟨.hbm, 378, rfl⟩
abbrev main_c_77 : Ref sig .tc := ⟨.hbm, 379, rfl⟩
abbrev main_v273 : Ref sig .tc := ⟨.hbm, 380, rfl⟩
abbrev main_v274 : Ref sig .tc := ⟨.hbm, 381, rfl⟩
abbrev main_v275 : Ref sig .tc := ⟨.hbm, 382, rfl⟩
abbrev main_c_78 : Ref sig .tc := ⟨.hbm, 383, rfl⟩
abbrev main_v276 : Ref sig .tc := ⟨.hbm, 384, rfl⟩
abbrev main_v277 : Ref sig .tc := ⟨.hbm, 385, rfl⟩
abbrev main_c_79 : Ref sig .tc := ⟨.hbm, 386, rfl⟩
abbrev main_v278 : Ref sig .tc := ⟨.hbm, 387, rfl⟩
abbrev main_v279 : Ref sig .tc := ⟨.hbm, 388, rfl⟩
abbrev main_v280 : Ref sig .tc := ⟨.hbm, 389, rfl⟩
abbrev main_c_80 : Ref sig .tc := ⟨.hbm, 390, rfl⟩
abbrev main_v281 : Ref sig .tc := ⟨.hbm, 391, rfl⟩
abbrev main_v282 : Ref sig .tc := ⟨.hbm, 392, rfl⟩
abbrev main_c_81 : Ref sig .tc := ⟨.hbm, 393, rfl⟩
abbrev main_v283 : Ref sig .tc := ⟨.hbm, 394, rfl⟩
abbrev main_v284 : Ref sig .tc := ⟨.hbm, 395, rfl⟩
abbrev main_v285 : Ref sig .tc := ⟨.hbm, 396, rfl⟩
abbrev main_c_82 : Ref sig .tc := ⟨.hbm, 397, rfl⟩
abbrev main_v286 : Ref sig .tc := ⟨.hbm, 398, rfl⟩
abbrev main_v287 : Ref sig .tc := ⟨.hbm, 399, rfl⟩
abbrev main_c_83 : Ref sig .tc := ⟨.hbm, 400, rfl⟩
abbrev main_v288 : Ref sig .tc := ⟨.hbm, 401, rfl⟩
abbrev main_v289 : Ref sig .tc := ⟨.hbm, 402, rfl⟩
abbrev main_v290 : Ref sig .tc := ⟨.hbm, 403, rfl⟩
abbrev main_v291 : Ref sig .tc := ⟨.hbm, 404, rfl⟩
abbrev main_v292 : Ref sig .tc := ⟨.hbm, 405, rfl⟩
abbrev main_v293 : Ref sig .tc := ⟨.hbm, 406, rfl⟩
abbrev main_v294 : Ref sig .tc := ⟨.hbm, 407, rfl⟩
abbrev main_v295 : Ref sig .tc := ⟨.hbm, 408, rfl⟩
abbrev main_c_84 : Ref sig .tc := ⟨.hbm, 409, rfl⟩
abbrev main_v296 : Ref sig .tc := ⟨.hbm, 410, rfl⟩
abbrev main_v297 : Ref sig .tc := ⟨.hbm, 411, rfl⟩
abbrev main_call7_v0 : Ref sig .tc := ⟨.hbm, 412, rfl⟩
abbrev main_call7_call0_cst : Ref sig .tc := ⟨.hbm, 413, rfl⟩
abbrev main_call7_call0_v0 : Ref sig .tc := ⟨.hbm, 414, rfl⟩
abbrev main_call7_call0_v1 : Ref sig .tc := ⟨.hbm, 415, rfl⟩
abbrev main_call7_call0_v2 : Ref sig .tc := ⟨.hbm, 416, rfl⟩
abbrev main_call7_call0_v3 : Ref sig .tc := ⟨.hbm, 417, rfl⟩
abbrev main_call7_call0_v4 : Ref sig .tc := ⟨.hbm, 418, rfl⟩
abbrev main_call7_call0_v5 : Ref sig .tc := ⟨.hbm, 419, rfl⟩
abbrev main_call7_call0_v6 : Ref sig .tc := ⟨.hbm, 420, rfl⟩
abbrev main_call7_call0_v7 : Ref sig .tc := ⟨.hbm, 421, rfl⟩
abbrev main_call7_call0_v8 : Ref sig .tc := ⟨.hbm, 422, rfl⟩
abbrev main_call7_call0_v9 : Ref sig .tc := ⟨.hbm, 423, rfl⟩
abbrev main_call7_call0_v10 : Ref sig .tc := ⟨.hbm, 424, rfl⟩
abbrev main_call7_call0_v11 : Ref sig .tc := ⟨.hbm, 425, rfl⟩
abbrev main_call7_v1 : Ref sig .tc := ⟨.hbm, 426, rfl⟩
abbrev main_v298 : Ref sig .tc := ⟨.hbm, 427, rfl⟩
abbrev main_v299 : Ref sig .tc := ⟨.hbm, 428, rfl⟩
abbrev main_cst_85 : Ref sig .tc := ⟨.hbm, 429, rfl⟩
abbrev main_v300 : Ref sig .tc := ⟨.hbm, 430, rfl⟩
abbrev main_v301 : Ref sig .tc := ⟨.hbm, 431, rfl⟩
abbrev main_v302 : Ref sig .tc := ⟨.hbm, 432, rfl⟩
abbrev main_call8_v0 : Ref sig .tc := ⟨.hbm, 433, rfl⟩
abbrev main_call8_call0_cst : Ref sig .tc := ⟨.hbm, 434, rfl⟩
abbrev main_call8_call0_v0 : Ref sig .tc := ⟨.hbm, 435, rfl⟩
abbrev main_call8_call0_v1 : Ref sig .tc := ⟨.hbm, 436, rfl⟩
abbrev main_call8_call0_v2 : Ref sig .tc := ⟨.hbm, 437, rfl⟩
abbrev main_call8_call0_v3 : Ref sig .tc := ⟨.hbm, 438, rfl⟩
abbrev main_call8_call0_v4 : Ref sig .tc := ⟨.hbm, 439, rfl⟩
abbrev main_call8_call0_v5 : Ref sig .tc := ⟨.hbm, 440, rfl⟩
abbrev main_call8_call0_v6 : Ref sig .tc := ⟨.hbm, 441, rfl⟩
abbrev main_call8_call0_v7 : Ref sig .tc := ⟨.hbm, 442, rfl⟩
abbrev main_call8_call0_v8 : Ref sig .tc := ⟨.hbm, 443, rfl⟩
abbrev main_call8_call0_v9 : Ref sig .tc := ⟨.hbm, 444, rfl⟩
abbrev main_call8_call0_v10 : Ref sig .tc := ⟨.hbm, 445, rfl⟩
abbrev main_call8_call0_v11 : Ref sig .tc := ⟨.hbm, 446, rfl⟩
abbrev main_call8_v1 : Ref sig .tc := ⟨.hbm, 447, rfl⟩
abbrev main_v303 : Ref sig .tc := ⟨.hbm, 448, rfl⟩
abbrev main_v304 : Ref sig .tc := ⟨.hbm, 449, rfl⟩
abbrev main_v305 : Ref sig .tc := ⟨.hbm, 450, rfl⟩
abbrev main_v306 : Ref sig .tc := ⟨.hbm, 451, rfl⟩
abbrev main_v307 : Ref sig .tc := ⟨.hbm, 452, rfl⟩
abbrev main_v308 : Ref sig .tc := ⟨.hbm, 453, rfl⟩
abbrev main_cst_86 : Ref sig .tc := ⟨.hbm, 454, rfl⟩
abbrev main_v309 : Ref sig .tc := ⟨.hbm, 455, rfl⟩
abbrev main_v310 : Ref sig .tc := ⟨.hbm, 456, rfl⟩
abbrev main_cst_87 : Ref sig .tc := ⟨.hbm, 457, rfl⟩
abbrev main_v311 : Ref sig .tc := ⟨.hbm, 458, rfl⟩
abbrev main_v312 : Ref sig .tc := ⟨.hbm, 459, rfl⟩
abbrev main_v313 : Ref sig .tc := ⟨.hbm, 460, rfl⟩
abbrev main_cst_88 : Ref sig .tc := ⟨.hbm, 461, rfl⟩
abbrev main_v314 : Ref sig .tc := ⟨.hbm, 462, rfl⟩
abbrev main_v315 : Ref sig .tc := ⟨.hbm, 463, rfl⟩
abbrev main_cst_89 : Ref sig .tc := ⟨.hbm, 464, rfl⟩
abbrev main_v316 : Ref sig .tc := ⟨.hbm, 465, rfl⟩
abbrev main_v317 : Ref sig .tc := ⟨.hbm, 466, rfl⟩
abbrev main_v318 : Ref sig .tc := ⟨.hbm, 467, rfl⟩
abbrev main_v319 : Ref sig .tc := ⟨.hbm, 468, rfl⟩
abbrev main_cst_90 : Ref sig .tc := ⟨.hbm, 469, rfl⟩
abbrev main_v320 : Ref sig .tc := ⟨.hbm, 470, rfl⟩
abbrev main_v321 : Ref sig .tc := ⟨.hbm, 471, rfl⟩
abbrev main_cst_91 : Ref sig .tc := ⟨.hbm, 472, rfl⟩
abbrev main_v322 : Ref sig .tc := ⟨.hbm, 473, rfl⟩
abbrev main_v323 : Ref sig .tc := ⟨.hbm, 474, rfl⟩
abbrev main_cst_92 : Ref sig .tc := ⟨.hbm, 475, rfl⟩
abbrev main_v324 : Ref sig .tc := ⟨.hbm, 476, rfl⟩
abbrev main_v325 : Ref sig .tc := ⟨.hbm, 477, rfl⟩
abbrev main_v326 : Ref sig .tc := ⟨.hbm, 478, rfl⟩
abbrev main_cst_93 : Ref sig .tc := ⟨.hbm, 479, rfl⟩
abbrev main_v327 : Ref sig .tc := ⟨.hbm, 480, rfl⟩
abbrev main_v328 : Ref sig .tc := ⟨.hbm, 481, rfl⟩
abbrev main_cst_94 : Ref sig .tc := ⟨.hbm, 482, rfl⟩
abbrev main_v329 : Ref sig .tc := ⟨.hbm, 483, rfl⟩
abbrev main_v330 : Ref sig .tc := ⟨.hbm, 484, rfl⟩
abbrev main_v331 : Ref sig .tc := ⟨.hbm, 485, rfl⟩
abbrev main_v332 : Ref sig .tc := ⟨.hbm, 486, rfl⟩
abbrev main_v333 : Ref sig .tc := ⟨.hbm, 487, rfl⟩
abbrev main_c_95 : Ref sig .tc := ⟨.hbm, 488, rfl⟩
abbrev main_v334 : Ref sig .tc := ⟨.hbm, 489, rfl⟩
abbrev main_v335 : Ref sig .tc := ⟨.hbm, 490, rfl⟩
abbrev main_cst_96 : Ref sig .tc := ⟨.hbm, 491, rfl⟩
abbrev main_cst_97 : Ref sig .tc := ⟨.hbm, 492, rfl⟩
abbrev main_call9_v0 : Ref sig .tc := ⟨.hbm, 493, rfl⟩
abbrev main_call9_v1 : Ref sig .tc := ⟨.hbm, 494, rfl⟩
abbrev main_v336 : Ref sig .tc := ⟨.hbm, 495, rfl⟩
abbrev main_v337 : Ref sig .tc := ⟨.hbm, 496, rfl⟩
abbrev main_cst_98 : Ref sig .tc := ⟨.hbm, 497, rfl⟩
abbrev main_v338 : Ref sig .tc := ⟨.hbm, 498, rfl⟩
abbrev main_v339 : Ref sig .tc := ⟨.hbm, 499, rfl⟩
abbrev main_v340 : Ref sig .tc := ⟨.hbm, 500, rfl⟩
abbrev main_v341 : Ref sig .tc := ⟨.hbm, 501, rfl⟩
abbrev main_v342 : Ref sig .tc := ⟨.hbm, 502, rfl⟩
abbrev main_v343 : Ref sig .tc := ⟨.hbm, 503, rfl⟩
abbrev main_v344 : Ref sig .tc := ⟨.hbm, 504, rfl⟩
abbrev main_cst_99 : Ref sig .tc := ⟨.hbm, 505, rfl⟩
abbrev main_v345 : Ref sig .tc := ⟨.hbm, 506, rfl⟩
abbrev main_cst_100 : Ref sig .tc := ⟨.hbm, 507, rfl⟩
abbrev main_v346 : Ref sig .tc := ⟨.hbm, 508, rfl⟩
abbrev main_cst_101 : Ref sig .tc := ⟨.hbm, 509, rfl⟩
abbrev main_v347 : Ref sig .tc := ⟨.hbm, 510, rfl⟩
abbrev main_v348 : Ref sig .tc := ⟨.hbm, 511, rfl⟩
abbrev main_v349 : Ref sig .tc := ⟨.hbm, 512, rfl⟩
abbrev main_v350 : Ref sig .tc := ⟨.hbm, 513, rfl⟩
abbrev main_cst_102 : Ref sig .tc := ⟨.hbm, 514, rfl⟩
abbrev main_v351 : Ref sig .tc := ⟨.hbm, 515, rfl⟩
abbrev main_v352 : Ref sig .tc := ⟨.hbm, 516, rfl⟩
abbrev main_cst_103 : Ref sig .tc := ⟨.hbm, 517, rfl⟩
abbrev main_v353 : Ref sig .tc := ⟨.hbm, 518, rfl⟩
abbrev main_v354 : Ref sig .tc := ⟨.hbm, 519, rfl⟩
abbrev main_v355 : Ref sig .tc := ⟨.hbm, 520, rfl⟩
abbrev main_cst_104 : Ref sig .tc := ⟨.hbm, 521, rfl⟩
abbrev main_v356 : Ref sig .tc := ⟨.hbm, 522, rfl⟩
abbrev main_v357 : Ref sig .tc := ⟨.hbm, 523, rfl⟩
abbrev main_v358 : Ref sig .tc := ⟨.hbm, 524, rfl⟩
abbrev main_v359 : Ref sig .tc := ⟨.hbm, 525, rfl⟩
abbrev main_v360 : Ref sig .tc := ⟨.hbm, 526, rfl⟩
abbrev main_v361 : Ref sig .tc := ⟨.hbm, 527, rfl⟩
abbrev main_c_105 : Ref sig .tc := ⟨.hbm, 528, rfl⟩
abbrev main_v362 : Ref sig .tc := ⟨.hbm, 529, rfl⟩
abbrev main_v363 : Ref sig .tc := ⟨.hbm, 530, rfl⟩
abbrev main_cst_106 : Ref sig .tc := ⟨.hbm, 531, rfl⟩
abbrev main_v364 : Ref sig .tc := ⟨.hbm, 532, rfl⟩
abbrev main_cst_107 : Ref sig .tc := ⟨.hbm, 533, rfl⟩
abbrev main_v365 : Ref sig .tc := ⟨.hbm, 534, rfl⟩
abbrev main_v366 : Ref sig .tc := ⟨.hbm, 535, rfl⟩
abbrev main_v367 : Ref sig .tc := ⟨.hbm, 536, rfl⟩
abbrev main_cst_108 : Ref sig .tc := ⟨.hbm, 537, rfl⟩
abbrev main_v368 : Ref sig .tc := ⟨.hbm, 538, rfl⟩
abbrev main_cst_109 : Ref sig .tc := ⟨.hbm, 539, rfl⟩
abbrev main_v369 : Ref sig .tc := ⟨.hbm, 540, rfl⟩
abbrev main_v370 : Ref sig .tc := ⟨.hbm, 541, rfl⟩
abbrev main_cst_110 : Ref sig .tc := ⟨.hbm, 542, rfl⟩
abbrev main_call12_v0 : Ref sig .tc := ⟨.hbm, 543, rfl⟩
abbrev main_v371 : Ref sig .tc := ⟨.hbm, 544, rfl⟩
abbrev main_call13_v0 : Ref sig .tc := ⟨.hbm, 545, rfl⟩
abbrev main_call13_call0_cst : Ref sig .tc := ⟨.hbm, 546, rfl⟩
abbrev main_call13_call0_v0 : Ref sig .tc := ⟨.hbm, 547, rfl⟩
abbrev main_call13_call0_v1 : Ref sig .tc := ⟨.hbm, 548, rfl⟩
abbrev main_call13_call0_v2 : Ref sig .tc := ⟨.hbm, 549, rfl⟩
abbrev main_call13_call0_v3 : Ref sig .tc := ⟨.hbm, 550, rfl⟩
abbrev main_call13_call0_v4 : Ref sig .tc := ⟨.hbm, 551, rfl⟩
abbrev main_call13_call0_v5 : Ref sig .tc := ⟨.hbm, 552, rfl⟩
abbrev main_call13_call0_v6 : Ref sig .tc := ⟨.hbm, 553, rfl⟩
abbrev main_call13_call0_v7 : Ref sig .tc := ⟨.hbm, 554, rfl⟩
abbrev main_call13_call0_v8 : Ref sig .tc := ⟨.hbm, 555, rfl⟩
abbrev main_call13_call0_v9 : Ref sig .tc := ⟨.hbm, 556, rfl⟩
abbrev main_call13_call0_v10 : Ref sig .tc := ⟨.hbm, 557, rfl⟩
abbrev main_call13_call0_v11 : Ref sig .tc := ⟨.hbm, 558, rfl⟩
abbrev main_call13_v1 : Ref sig .tc := ⟨.hbm, 559, rfl⟩
abbrev main_v372 : Ref sig .tc := ⟨.hbm, 560, rfl⟩
abbrev main_v373 : Ref sig .tc := ⟨.hbm, 561, rfl⟩
abbrev main_cst_111 : Ref sig .tc := ⟨.hbm, 562, rfl⟩
abbrev main_v374 : Ref sig .tc := ⟨.hbm, 563, rfl⟩
abbrev main_v375 : Ref sig .tc := ⟨.hbm, 564, rfl⟩
abbrev main_v376 : Ref sig .tc := ⟨.hbm, 565, rfl⟩
abbrev main_call14_v0 : Ref sig .tc := ⟨.hbm, 566, rfl⟩
abbrev main_call14_call0_cst : Ref sig .tc := ⟨.hbm, 567, rfl⟩
abbrev main_call14_call0_v0 : Ref sig .tc := ⟨.hbm, 568, rfl⟩
abbrev main_call14_call0_v1 : Ref sig .tc := ⟨.hbm, 569, rfl⟩
abbrev main_call14_call0_v2 : Ref sig .tc := ⟨.hbm, 570, rfl⟩
abbrev main_call14_call0_v3 : Ref sig .tc := ⟨.hbm, 571, rfl⟩
abbrev main_call14_call0_v4 : Ref sig .tc := ⟨.hbm, 572, rfl⟩
abbrev main_call14_call0_v5 : Ref sig .tc := ⟨.hbm, 573, rfl⟩
abbrev main_call14_call0_v6 : Ref sig .tc := ⟨.hbm, 574, rfl⟩
abbrev main_call14_call0_v7 : Ref sig .tc := ⟨.hbm, 575, rfl⟩
abbrev main_call14_call0_v8 : Ref sig .tc := ⟨.hbm, 576, rfl⟩
abbrev main_call14_call0_v9 : Ref sig .tc := ⟨.hbm, 577, rfl⟩
abbrev main_call14_call0_v10 : Ref sig .tc := ⟨.hbm, 578, rfl⟩
abbrev main_call14_call0_v11 : Ref sig .tc := ⟨.hbm, 579, rfl⟩
abbrev main_call14_v1 : Ref sig .tc := ⟨.hbm, 580, rfl⟩
abbrev main_v377 : Ref sig .tc := ⟨.hbm, 581, rfl⟩
abbrev main_v378 : Ref sig .tc := ⟨.hbm, 582, rfl⟩
abbrev main_v379 : Ref sig .tc := ⟨.hbm, 583, rfl⟩
abbrev main_v380 : Ref sig .tc := ⟨.hbm, 584, rfl⟩
abbrev main_v381 : Ref sig .tc := ⟨.hbm, 585, rfl⟩
abbrev main_v382 : Ref sig .tc := ⟨.hbm, 586, rfl⟩
abbrev main_v383 : Ref sig .tc := ⟨.hbm, 587, rfl⟩
abbrev main_c_112 : Ref sig .tc := ⟨.hbm, 588, rfl⟩
abbrev main_v384 : Ref sig .tc := ⟨.hbm, 589, rfl⟩
abbrev main_v385 : Ref sig .tc := ⟨.hbm, 590, rfl⟩
abbrev main_cst_113 : Ref sig .tc := ⟨.hbm, 591, rfl⟩
abbrev main_v386 : Ref sig .tc := ⟨.hbm, 592, rfl⟩
abbrev main_cst_114 : Ref sig .tc := ⟨.hbm, 593, rfl⟩
abbrev main_v387 : Ref sig .tc := ⟨.hbm, 594, rfl⟩
abbrev main_v388 : Ref sig .tc := ⟨.hbm, 595, rfl⟩
abbrev main_v389 : Ref sig .tc := ⟨.hbm, 596, rfl⟩
abbrev main_cst_115 : Ref sig .tc := ⟨.hbm, 597, rfl⟩
abbrev main_v390 : Ref sig .tc := ⟨.hbm, 598, rfl⟩
abbrev main_cst_116 : Ref sig .tc := ⟨.hbm, 599, rfl⟩
abbrev main_v391 : Ref sig .tc := ⟨.hbm, 600, rfl⟩
abbrev main_v392 : Ref sig .tc := ⟨.hbm, 601, rfl⟩
abbrev main_cst_117 : Ref sig .tc := ⟨.hbm, 602, rfl⟩
abbrev main_call15_v0 : Ref sig .tc := ⟨.hbm, 603, rfl⟩
abbrev main_v393 : Ref sig .tc := ⟨.hbm, 604, rfl⟩
abbrev main_cst_118 : Ref sig .tc := ⟨.hbm, 605, rfl⟩
abbrev main_v394 : Ref sig .tc := ⟨.hbm, 606, rfl⟩
abbrev main_cst_119 : Ref sig .tc := ⟨.hbm, 607, rfl⟩
abbrev main_v395 : Ref sig .tc := ⟨.hbm, 608, rfl⟩
abbrev main_v396 : Ref sig .tc := ⟨.hbm, 609, rfl⟩
abbrev main_cst_120 : Ref sig .tc := ⟨.hbm, 610, rfl⟩
abbrev main_v397 : Ref sig .tc := ⟨.hbm, 611, rfl⟩
abbrev main_v398 : Ref sig .tc := ⟨.hbm, 612, rfl⟩
abbrev main_v399 : Ref sig .tc := ⟨.hbm, 613, rfl⟩
abbrev main_v400 : Ref sig .tc := ⟨.hbm, 614, rfl⟩
abbrev main_v401 : Ref sig .tc := ⟨.hbm, 615, rfl⟩
abbrev main_v402 : Ref sig .tc := ⟨.hbm, 616, rfl⟩
abbrev main_v403 : Ref sig .tc := ⟨.hbm, 617, rfl⟩
abbrev main_v404 : Ref sig .tc := ⟨.hbm, 618, rfl⟩

abbrev nD : Nat := 1
abbrev τ : Topo := Topo.v7x

variable {F : FTy → Type} [FloatOps F]

def κ : String → Option EReal := fun
  | "cell" => some ((2 / 5 : ℝ) : EReal)
  | _ => none
-- ==== Proof.Step.lean ====
/- What one grid point of the kernel adds to its running vector, written once for all batches, classes and channels,
   and the tables that the first grid point stores: the kernel's own operations, with the batch, the class and the
   channel as parameters. -/
module

public import proofs.«01_k».proof.Proof.Gen.KernelIdeal.Value

@[expose] public section

noncomputable section

namespace Cert.KernelIdeal.Loss

open Cert.KernelIdeal Cert.KernelIdeal.Gen Idealize.ShloMosaic Idealize.ShloMosaic.TcCoe Idealize.SL.Sem

variable {F : FTy → Type} [FloatOps F] [Named F]

/-- Row `b` of an 8×64 table is a 1×64 table. -/
theorem slice_row (b : Fin 8) : S8x64.Slices ![b.val, 0] S1x64 := by
  revert b; decide

/-- Channel `k` of the boxes is an 8×1×64 table. -/
theorem slice_chan (k : Fin 8) : S8x8x64.Slices ![0, k.val, 0] S8x1x64 := by
  revert k; decide

/-! ## The boxes -/

/-- Channel `k` of the boxes, by batch and box. -/
def chan (g : Vec F S8x8x64 .f32) (k : Fin 8) : FVec F S8x64 .f32 :=
  shapeCast S8x64 (extractStridedSlice S8x1x64 ![0, k.val, 0]
    (shapeCast S8x8x64 g shapeCasts_S8x8x64_S8x8x64) (slice_chan k)) shapeCasts_S8x1x64_S8x64

/-- The column of a box as a float. -/
def gxf (g : Vec F S8x8x64 .f32) : FVec F S8x64 .f32 :=
  floor (mulf (subf (chan g 0) (broadcast S8x64 (Scalar.ofBits .f32 0x00000000#32)))
    (broadcast S8x64 (Scalar.ofBits .f32 0x40200000#32)))

/-- The row of a box as a float. -/
def gyf (g : Vec F S8x8x64 .f32) : FVec F S8x64 .f32 :=
  floor (mulf (subf (chan g 1) (broadcast S8x64 (Scalar.ofBits .f32 0xC2480000#32)))
    (broadcast S8x64 (Scalar.ofBits .f32 0x40200000#32)))

/-- The column of a box. -/
def gx (g : Vec F S8x8x64 .f32) : IVec S8x64 32 := fptosi 32 (gxf g)

/-- The row of a box. -/
def gy (g : Vec F S8x8x64 .f32) : IVec S8x64 32 := fptosi 32 (gyf g)

/-- The class of a box. -/
def cid (g : Vec F S8x8x64 .f32) : IVec S8x64 32 := fptosi 32 (chan g 7)

/-- Which boxes lie on the grid. -/
def valid (g : Vec F S8x8x64 .f32) : IVec S8x64 1 :=
  andi (andi (andi (andi (andi (andi (andi
    (cmpf .oge (chan g 0) (broadcast S8x64 (Scalar.ofBits .f32 0x00000000#32)))
    (cmpf .olt (chan g 0) (broadcast S8x64 (Scalar.ofBits .f32 0x43480000#32))))
    (cmpf .oge (chan g 1) (broadcast S8x64 (Scalar.ofBits .f32 0xC2480000#32))))
    (cmpf .olt (chan g 1) (broadcast S8x64 (Scalar.ofBits .f32 0x42480000#32))))
    (cmpi .sge (gx g) (broadcast S8x64 0#32)))
    (cmpi .slt (gx g) (broadcast S8x64 500#32)))
    (cmpi .sge (gy g) (broadcast S8x64 0#32)))
    (cmpi .slt (gy g) (broadcast S8x64 250#32))

/-- Which boxes fall in the first direction bin. -/
def dbin (g : Vec F S8x8x64 .f32) : IVec S8x64 1 :=
  cmpf .oge (cos (chan g 6)) (broadcast S8x64 (Scalar.ofBits .f32 0x00000000#32))

/-- Row `b` of a table over batches and boxes. -/
def rowOf {α : Type} (v : S8x64.Idx → α) (b : Fin 8) : S1x64.Idx → α :=
  extractStridedSlice S1x64 ![b.val, 0] v (slice_row b)

/-! ## A grid point's rows -/

/-- The row of each box of batch `b`, counted from the point's first row. -/
def gyRel (p : BitVec 32) (g : Vec F S8x8x64 .f32) (b : Fin 8) : IVec S1x64 32 :=
  subi (rowOf (gy g) b) (broadcast S1x64 (Scalar.muli p 25#32))

/-- Which of the point's rows each box lies in. -/
def rowsEq (p : BitVec 32) (g : Vec F S8x8x64 .f32) (b : Fin 8) : IVec S25x64 1 :=
  cmpi .eq (iota .tc S25x64 32 [0] iota_S25x64_d0_w32) (broadcastTo S25x64 (gyRel p g b) broadcasts_S1x64_S25x64)

/-- Which of the point's rows are at most one away from each box. -/
def rowsNear (p : BitVec 32) (g : Vec F S8x8x64 .f32) (b : Fin 8) : IVec S25x64 1 :=
  cmpi .sle (absi (subi (iota .tc S25x64 32 [0] iota_S25x64_d0_w32)
    (broadcastTo S25x64 (gyRel p g b) broadcasts_S1x64_S25x64))) (broadcast S25x64 1#32)

/-- The sum over the boxes of a 0/1 table of rows against a table of columns. -/
def dotRows (rows : IVec S25x64 1) (cols : Vec F S1x1x500x64 .f32) : FVec F S25x500 .f32 :=
  matmul dot_S25x64_S500x64_S25x500_1_1_0_0_n_n none
    (select rows (broadcast S25x64 (Scalar.ofBits .f32 0x3F800000#32)) (broadcast S25x64 (Scalar.ofBits .f32 0x00000000#32)))
    (shapeCast S500x64 cols shapeCasts_S1x1x500x64_S500x64) (constant S25x500 .f32 0x00000000#32)

/-- Which boxes of batch `b` are of class `c`. -/
def isCls (g : Vec F S8x8x64 .f32) (b : Fin 8) (c : BitVec 32) : IVec S25x64 1 :=
  broadcastTo S25x64 (cmpi .eq (rowOf (cid g) b) (broadcast S1x64 c)) broadcasts_S1x64_S25x64

/-- A constant over the point's cells. -/
def cst (w : BitVec 32) : FVec F S25x500 .f32 := broadcast S25x500 (Scalar.ofBits .f32 w)

/-- How many boxes of class `c` hit each cell. -/
def hitCnt (p : BitVec 32) (g : Vec F S8x8x64 .f32) (cm : Fin 8 → Fin 9 → Vec F S1x1x500x64 .f32) (b : Fin 8) (c : BitVec 32) :
    FVec F S25x500 .f32 := dotRows (andi (rowsEq p g b) (isCls g b c)) (cm b 0)

/-- How many boxes of class `c` are near each cell. -/
def nearCnt (p : BitVec 32) (g : Vec F S8x8x64 .f32) (cm : Fin 8 → Fin 9 → Vec F S1x1x500x64 .f32) (b : Fin 8) (c : BitVec 32) :
    FVec F S25x500 .f32 := dotRows (andi (rowsNear p g b) (isCls g b c)) (cm b 1)

/-- A count is positive. -/
def isPos (v : FVec F S25x500 .f32) : IVec S25x500 1 := cmpf .ogt v (cst 0x00000000#32)

/-- Which cells count in the class loss. -/
def vmask (hit near : FVec F S25x500 .f32) : IVec S25x500 1 := ori (isPos hit) (cmpf .oeq near (cst 0x00000000#32))

/-- The logarithm of the sigmoid. -/
def lsPos (x : FVec F S25x500 .f32) : FVec F S25x500 .f32 :=
  select (cmpf .oge x (cst 0x00000000#32)) (subf (cst 0x00000000#32) (log1p (exp (subf (cst 0x00000000#32) (absf x)))))
    (subf x (log1p (exp (subf (cst 0x00000000#32) (absf x)))))

/-- The logarithm of the sigmoid of the opposite. -/
def lsNeg (x : FVec F S25x500 .f32) : FVec F S25x500 .f32 := subf (lsPos x) x

/-- The class loss of each cell; `w` is the weight of a hit. -/
def clsTerm (w : BitVec 32) (hit : IVec S25x500 1) (x : FVec F S25x500 .f32) : FVec F S25x500 .f32 :=
  mulf (mulf (select hit (cst w) (cst 0x3F400000#32)) (exp (mulf (cst 0x40400000#32) (select hit (lsNeg x) (lsPos x)))))
    (select hit (lsPos x) (lsNeg x))

/-- The sum over the point's cells of the entries that a mask keeps. -/
def sumOn (k : IVec S25x500 1) (v : FVec F S25x500 .f32) : F .f32 :=
  extractAt ![0, 0, 0] (shapeCast S1x1x1 (multiReduction .add [1, 2] S1
    (shapeCast S1x25x500 (select k v (cst 0x00000000#32)) shapeCasts_S25x500_S1x25x500)
    0x00000000#32 reduces_S1x25x500_S1 (.inl rfl) rfl) shapeCasts_S1_S1x1x1) inpos_S1x1x1_p0_0_0

/-- A block of logits as a table over the point's cells. -/
def cell (x : Vec F S1x25x1x500 .f32) : FVec F S25x500 .f32 := shapeCast S25x500 x shapeCasts_S1x25x1x500_S25x500

/-- The weight of a hit, by class. -/
def cwt (c : Fin 3) : BitVec 32 := if c = 0 then 0x3E800000#32 else 0x3FA00000#32

/-- The word of a class. -/
def clsW (c : Fin 3) : BitVec 32 := BitVec.ofNat 32 c.val

section
variable (p : BitVec 32) (g : Vec F S8x8x64 .f32) (cm : Fin 8 → Fin 9 → Vec F S1x1x500x64 .f32)

/-- The class loss of batch `b` and class `c`. -/
def clsSum (l1 : Fin 3 → Fin 8 → Vec F S1x25x1x500 .f32) (b : Fin 8) (c : Fin 3) : F .f32 :=
  sumOn (vmask (hitCnt p g cm b (clsW c)) (nearCnt p g cm b (clsW c)))
    (clsTerm (cwt c) (isPos (hitCnt p g cm b (clsW c))) (cell (l1 c b)))

/-- How many cells of batch `b` count for class `c`. -/
def vmSum (b : Fin 8) (c : Fin 3) : F .f32 :=
  sumOn (vmask (hitCnt p g cm b (clsW c)) (nearCnt p g cm b (clsW c))) (cst 0x3F800000#32)

/-- Which cells of batch `b` hold a box. -/
def posM (b : Fin 8) : IVec S25x500 1 :=
  isPos (addf (addf (hitCnt p g cm b (clsW 0)) (hitCnt p g cm b (clsW 1))) (hitCnt p g cm b (clsW 2)))

/-- How many cells of batch `b` hold a box. -/
def posSum (b : Fin 8) : F .f32 := sumOn (posM p g cm b) (cst 0x3F800000#32)

/-- The smooth absolute value. -/
def smooth (d : FVec F S25x500 .f32) : FVec F S25x500 .f32 :=
  select (cmpf .olt (absf d) (cst 0x3F800000#32)) (mulf (mulf (cst 0x3F000000#32) d) d) (subf (absf d) (cst 0x3F000000#32))

/-- The regression loss of batch `b` and channel `i`. -/
def regSum (l2 : Fin 7 → Fin 8 → Vec F S1x25x1x500 .f32) (b : Fin 8) (i : Fin 7) : F .f32 :=
  sumOn (posM p g cm b) (smooth (subf (cell (l2 i b)) (dotRows (rowsEq p g b) (cm b ⟨2 + i.val, by omega⟩))))

/-- Which boxes of batch `b` fall in direction bin `k`. -/
def dirRow (b : Fin 8) (k : Fin 2) : IVec S1x64 1 :=
  match k with
  | 0 => rowOf (dbin g) b
  | 1 => xori (rowOf (dbin g) b) (constantI S1x64 1 1#1)

/-- The direction loss of batch `b` and bin `k`. -/
def dirSum (l3 : Fin 8 → Fin 2 → Vec F S1x25x1x500 .f32) (b : Fin 8) (k : Fin 2) : F .f32 :=
  sumOn (posM p g cm b) (select
    (isPos (dotRows (andi (rowsEq p g b) (broadcastTo S25x64 (dirRow g b k) broadcasts_S1x64_S25x64)) (cm b 0)))
    (lsPos (cell (l3 b k))) (lsNeg (cell (l3 b k))))

end

/-- Eight steps, one per batch. -/
def chain8 (f : Fin 8 → F .f32 → F .f32) (z : F .f32) : F .f32 := f 7 (f 6 (f 5 (f 4 (f 3 (f 2 (f 1 (f 0 z)))))))

/-- Three sums more. -/
def add3 (s : Fin 3 → F .f32) (a : F .f32) : F .f32 := Scalar.addf (Scalar.addf (Scalar.addf a (s 0)) (s 1)) (s 2)

/-- Two sums more. -/
def add2 (s : Fin 2 → F .f32) (a : F .f32) : F .f32 := Scalar.addf (Scalar.addf a (s 0)) (s 1)

/-- Seven sums more. -/
def add7 (s : Fin 7 → F .f32) (a : F .f32) : F .f32 :=
  Scalar.addf (Scalar.addf (Scalar.addf (Scalar.addf (Scalar.addf (Scalar.addf (Scalar.addf a (s 0)) (s 1)) (s 2)) (s 3)) (s 4)) (s 5)) (s 6)

/-- The number at lane `j`, zero elsewhere. -/
def lane (j : BitVec 32) (s : F .f32) : FVec F S1x128 .f32 :=
  select (cmpi .eq (iota .tc S1x128 32 [1] iota_S1x128_d1_w32) (broadcast S1x128 j)) (broadcast S1x128 s)
    (broadcast S1x128 (Scalar.ofBits .f32 0x00000000#32))

/-- What a grid point adds to the running vector: the five sums in the first five lanes. -/
def lossVec (p : BitVec 32) (l1 : Fin 3 → Fin 8 → Vec F S1x25x1x500 .f32) (l2 : Fin 7 → Fin 8 → Vec F S1x25x1x500 .f32)
    (l3 : Fin 8 → Fin 2 → Vec F S1x25x1x500 .f32) (g : Vec F S8x8x64 .f32)
    (cm : Fin 8 → Fin 9 → Vec F S1x1x500x64 .f32) : FVec F S1x128 .f32 :=
  addf (addf (addf (addf
    (lane 0#32 (chain8 (fun b => add3 (clsSum p g cm l1 b)) (Scalar.ofBits .f32 0x00000000#32)))
    (lane 1#32 (chain8 (fun b => add3 (vmSum p g cm b)) (Scalar.ofBits .f32 0x00000000#32))))
    (lane 2#32 (chain8 (fun b => add7 (regSum p g cm l2 b)) (Scalar.ofBits .f32 0x00000000#32))))
    (lane 3#32 (chain8 (fun b a => Scalar.addf a (posSum p g cm b)) (Scalar.ofBits .f32 0x00000000#32))))
    (lane 4#32 (chain8 (fun b => add2 (dirSum p g cm l3 b)) (Scalar.ofBits .f32 0x00000000#32)))

/-! ## The tables of the first point -/

section
variable (g : Vec F S8x8x64 .f32)

/-- The regression values of the boxes. -/
def rv (i : Fin 7) : FVec F S8x64 .f32 :=
  match i with
  | 0 => mulf (subf (chan g 0) (addf (broadcast S8x64 (Scalar.ofBits .f32 0x00000000#32))
      (mulf (addf (gxf g) (broadcast S8x64 (Scalar.ofBits .f32 0x3F000000#32)))
        (broadcast S8x64 (Named.named κ "cell" 0x3ECCCCCD#32))))) (broadcast S8x64 (Scalar.ofBits .f32 0x40200000#32))
  | 1 => mulf (subf (chan g 1) (addf (broadcast S8x64 (Scalar.ofBits .f32 0xC2480000#32))
      (mulf (addf (gyf g) (broadcast S8x64 (Scalar.ofBits .f32 0x3F000000#32)))
        (broadcast S8x64 (Named.named κ "cell" 0x3ECCCCCD#32))))) (broadcast S8x64 (Scalar.ofBits .f32 0x40200000#32))
  | 2 => chan g 2
  | 3 => log (maximumf (chan g 3) (broadcast S8x64 (Scalar.ofBits .f32 0x3A83126F#32)))
  | 4 => log (maximumf (chan g 4) (broadcast S8x64 (Scalar.ofBits .f32 0x3A83126F#32)))
  | 5 => log (maximumf (chan g 5) (broadcast S8x64 (Scalar.ofBits .f32 0x3A83126F#32)))
  | 6 => sin (chan g 6)

/-- Which column each box of batch `b` lies in. -/
def colsEq (b : Fin 8) : IVec S500x64 1 :=
  cmpi .eq (iota .tc S500x64 32 [0] iota_S500x64_d0_w32) (broadcastTo S500x64 (rowOf (gx g) b) broadcasts_S1x64_S500x64)

/-- The boxes of batch `b` on the grid, over the columns. -/
def validC (b : Fin 8) : IVec S500x64 1 := broadcastTo S500x64 (rowOf (valid g) b) broadcasts_S1x64_S500x64

/-- A 0/1 table over columns and boxes. -/
def ind500 (k : IVec S500x64 1) : FVec F S500x64 .f32 :=
  select k (broadcast S500x64 (Scalar.ofBits .f32 0x3F800000#32)) (broadcast S500x64 (Scalar.ofBits .f32 0x00000000#32))

/-- The column of each box on the grid. -/
def colsHit (b : Fin 8) : FVec F S500x64 .f32 := ind500 (andi (colsEq g b) (validC g b))

/-- The columns at most one away from each box on the grid. -/
def colsNear (b : Fin 8) : FVec F S500x64 .f32 :=
  ind500 (andi (cmpi .sle (absi (subi (iota .tc S500x64 32 [0] iota_S500x64_d0_w32)
    (broadcastTo S500x64 (rowOf (gx g) b) broadcasts_S1x64_S500x64))) (broadcast S500x64 1#32)) (validC g b))

/-- The row of each box on the grid. -/
def rowsHit (b : Fin 8) : FVec F S250x64 .f32 :=
  select (andi (cmpi .eq (iota .tc S250x64 32 [0] iota_S250x64_d0_w32)
      (broadcastTo S250x64 (rowOf (gy g) b) broadcasts_S1x64_S250x64))
      (broadcastTo S250x64 (rowOf (valid g) b) broadcasts_S1x64_S250x64))
    (broadcast S250x64 (Scalar.ofBits .f32 0x3F800000#32)) (broadcast S250x64 (Scalar.ofBits .f32 0x00000000#32))

/-- Which box is later and lies in the same cell as which. -/
def sameLater (b : Fin 8) : IVec S64x64 1 :=
  andi (andi
    (cmpf .ogt (matmul dot_S250x64_S250x64_S64x64_0_0_1_1_n_n none (rowsHit g b) (rowsHit g b) (constant S64x64 .f32 0x00000000#32))
      (broadcast S64x64 (Scalar.ofBits .f32 0x00000000#32)))
    (cmpf .ogt (matmul dot_S500x64_S500x64_S64x64_0_0_1_1_n_n none (colsHit g b) (colsHit g b) (constant S64x64 .f32 0x00000000#32))
      (broadcast S64x64 (Scalar.ofBits .f32 0x00000000#32))))
    (cmpi .sgt (iota .tc S64x64 32 [0] iota_S64x64_d0_w32) (iota .tc S64x64 32 [1] iota_S64x64_d1_w32))

/-- Which boxes of batch `b` are the last of their cell. -/
def isLast (b : Fin 8) : IVec S1x64 1 :=
  andi (rowOf (valid g) b) (xori (shapeCast S1x64 (cmpf (F := F) .ogt (multiReduction .maximumf [0] S64
    (select (sameLater g b) (broadcast S64x64 (Scalar.ofBits .f32 0x3F800000#32)) (broadcast S64x64 (Scalar.ofBits .f32 0x00000000#32)))
    0xFF800000#32 reduces_S64x64_S64 (.inl rfl) rfl) (broadcast S64 (Scalar.ofBits .f32 0x00000000#32))) shapeCasts_S64_S1x64)
    (constantI S1x64 1 1#1))

/-- Regression value `i` of the last box of each column. -/
def keepRv (b : Fin 8) (i : Fin 7) : FVec F S500x64 .f32 :=
  select (andi (colsEq g b) (broadcastTo S500x64 (isLast g b) broadcasts_S1x64_S500x64))
    (broadcastTo S500x64 (shapeCast S1x64 (rowOf (rv g i) b) shapeCasts_S1x64_S1x64) broadcasts_S1x64_S500x64)
    (broadcast S500x64 (Scalar.ofBits .f32 0x00000000#32))

/-- Table `j` of batch `b`: the hit columns, the near columns, the seven regression values. -/
def table (b : Fin 8) (j : Fin 9) : Vec F S1x1x500x64 .f32 :=
  shapeCast S1x1x500x64 (match j with
  | 0 => colsHit g b | 1 => colsNear g b | 2 => keepRv g b 0 | 3 => keepRv g b 1 | 4 => keepRv g b 2
  | 5 => keepRv g b 3 | 6 => keepRv g b 4 | 7 => keepRv g b 5 | 8 => keepRv g b 6) shapeCasts_S500x64_S1x1x500x64

end

/-! ## The result from the running vector -/

/-- Lane `j` of the running vector. -/
def laneOf (s : Vec F S1x128 .f32) (j : ℕ) (h : S1x128.Slices ![0, j] S1x1) : F .f32 :=
  extractAt ![0, 0] (extractStridedSlice S1x1 ![0, j] s h) inpos_S1x1_p0_0

/-- The class loss. -/
def clsLoss (s : Vec F S1x128 .f32) : F .f32 :=
  Scalar.divf (Scalar.subf (Scalar.ofBits .f32 0x00000000#32) (laneOf s 0 slices_S1x128_o0_0_S1x1))
    (Scalar.addf (laneOf s 1 slices_S1x128_o0_1_S1x1) (Scalar.ofBits .f32 0x358637BD#32))

/-- How often the boxes' cells count: their number times `w`. -/
def cnt (w : BitVec 32) (s : Vec F S1x128 .f32) : F .f32 :=
  Scalar.mulf (laneOf s 3 slices_S1x128_o0_3_S1x1) (Scalar.ofBits .f32 w)

/-- A mean over a count that may be zero. -/
def meanOf (x n : F .f32) : F .f32 :=
  Scalar.select (Scalar.cmpf .ogt n (Scalar.ofBits .f32 0x00000000#32))
    (Scalar.divf x (Scalar.maximumf n (Scalar.ofBits .f32 0x3F800000#32))) (Scalar.ofBits .f32 0x00000000#32)

/-- The regression loss. -/
def regLoss (s : Vec F S1x128 .f32) : F .f32 := meanOf (laneOf s 2 slices_S1x128_o0_2_S1x1) (cnt 0x40E00000#32 s)

/-- The direction loss. -/
def dirLoss (s : Vec F S1x128 .f32) : F .f32 :=
  meanOf (Scalar.subf (Scalar.ofBits .f32 0x00000000#32) (laneOf s 4 slices_S1x128_o0_4_S1x1)) (cnt 0x40000000#32 s)

/-- The weighted total. -/
def totLoss (s : Vec F S1x128 .f32) : F .f32 :=
  Scalar.addf (Scalar.addf (Scalar.mulf (Scalar.ofBits .f32 0x3F800000#32) (clsLoss s))
    (Scalar.mulf (Scalar.ofBits .f32 0x40000000#32) (regLoss s))) (Scalar.mulf (Scalar.ofBits .f32 0x3E4CCCCD#32) (dirLoss s))

/-- The lane number of the result is `j`. -/
def at4 (j : BitVec 32) : IVec S1x1x4 1 := cmpi .eq (iota .tc S1x1x4 32 [2] iota_S1x1x4_d2_w32) (broadcast S1x1x4 j)

/-- The kernel's result from the running vector. -/
def final (s : Vec F S1x128 .f32) : FVec F S1x1x4 .f32 :=
  select (at4 0#32) (broadcast S1x1x4 (totLoss s)) (select (at4 1#32) (broadcast S1x1x4 (clsLoss s))
    (select (at4 2#32) (broadcast S1x1x4 (regLoss s)) (broadcast S1x1x4 (dirLoss s))))

end Cert.KernelIdeal.Loss

end
-- ==== Proof.Words.lean ====
/- The grid points' named terms are the parametrised ones of Step.lean. -/
module

public import proofs.«01_k».proof.Proof.Step

@[expose] public section

set_option maxRecDepth 100000

noncomputable section

namespace Cert.KernelIdeal.Loss

open Cert.KernelIdeal Cert.KernelIdeal.Gen Idealize.ShloMosaic Idealize.ShloMosaic.TcCoe Idealize.SL.Sem

variable {F : FTy → Type} [FloatOps F] [Named F]

theorem hz2 : (![0, 0] : Fin 2 → Nat) = fun _ => 0 := by decide
theorem hz3 : (![0, 0, 0] : Fin 3 → Nat) = fun _ => 0 := by decide

/-- A block of the class logits. -/
def ld1 (x0 : Vec F S3x25x8x500 .f32) (k : Fin 3) (b : Fin 8) : Vec F S1x25x1x500 .f32 :=
  View.ld x0 (Rect.unit (s := S3x25x8x500) ![k.val, 0, b.val, 0] S1x25x1x500.size (by revert k b; decide))

/-- A block of the regression logits. -/
def ld2 (x1 : Vec F S7x25x8x500 .f32) (k : Fin 7) (b : Fin 8) : Vec F S1x25x1x500 .f32 :=
  View.ld x1 (Rect.unit (s := S7x25x8x500) ![k.val, 0, b.val, 0] S1x25x1x500.size (by revert k b; decide))

/-- A block of the direction logits. -/
def ld3 (x2 : Vec F S8x25x2x500 .f32) (b : Fin 8) (k : Fin 2) : Vec F S1x25x1x500 .f32 :=
  View.ld x2 (Rect.unit (s := S8x25x2x500) ![b.val, 0, k.val, 0] S1x25x1x500.size (by revert k b; decide))

/-- The rectangle of table `j` of batch `b`. -/
def rect6 (b : Fin 8) (j : Fin 9) : Rect S8x9x500x64 :=
  Rect.unit (s := S8x9x500x64) ![b.val, j.val, 0, 0] S1x1x500x64.size (by revert b j; decide)

/-- Table `j` of batch `b` of the tables' buffer. -/
def ld6 (x : Vec F S8x9x500x64 .f32) (b : Fin 8) (j : Fin 9) : Vec F S1x1x500x64 .f32 := View.ld x (rect6 b j)

/-- A middle point: the running vector plus what the point adds. -/
theorem sout_B (c : Dev nD) (i : grid0.Coords) (arg1 : Memref sig .tc .vmem S3x25x8x500 .f32) (harg1 : arg1.IsWhole) (arg2 : Memref sig .tc .vmem S7x25x8x500 .f32) (harg2 : arg2.IsWhole) (arg3 : Memref sig .tc .vmem S8x25x2x500 .f32) (harg3 : arg3.IsWhole) (arg4 : Memref sig .tc .vmem S8x8x64 .f32) (harg4 : arg4.IsWhole) (arg5 : Memref sig .tc .vmem S1x1x4 .f32) (harg5 : arg5.IsWhole) (arg6 : Memref sig .tc .vmem S8x9x500x64 .f32) (harg6 : arg6.IsWhole) (arg7 : Memref sig .tc .vmem S1x128 .f32) (harg7 : arg7.IsWhole) (hc0 : ¬cond0_0 i) (hc1 : ¬cond0_1 i)
    (x0 : Vec F S3x25x8x500 .f32) (x1 : Vec F S7x25x8x500 .f32) (x2 : Vec F S8x25x2x500 .f32) (x3 : Vec F S8x8x64 .f32) (xs0 : Vec F S8x9x500x64 .f32) (xs1 : Vec F S1x128 .f32) :
    sout0_B_1 c i arg1 harg1 arg2 harg2 arg3 harg3 arg4 harg4 arg5 harg5 arg6 harg6 arg7 harg7 hc0 hc1 x0 x1 x2 x3 xs0 xs1 = addf xs1 (lossVec (BitVec.ofNat 32 (i 0)) (ld1 x0) (ld2 x1) (ld3 x2) x3  (ld6 xs0)) := by
  unfold sout0_B_1
  rw [View.read_writes_eq_canon _ _ _ (scover0_B_1 c i arg1 harg1 arg2 harg2 arg3 harg3 arg4 harg4 arg5 harg5 arg6 harg6 arg7 harg7 hc0 hc1 x0 x1 x2 x3 xs0 xs1)]
  unfold kernelRun0_B
  dsimp only
  rw [View.canon_unit_zero hz2]
  refine Eq.trans (b := k0_pay1 (lossVec (BitVec.ofNat 32 (i 0)) (ld1 (arg1.view.read (Elt F) (harg1.unread x0)))
    (ld2 (arg2.view.read (Elt F) (harg2.unread x1))) (ld3 (arg3.view.read (Elt F) (harg3.unread x2)))
    (View.ld (arg4.view.read (Elt F) (harg4.unread x3)) (Rect.unit (s := S8x8x64) ![0, 0, 0] S8x8x64.size inb_S8x8x64_S8x8x64_0_0_0))
    (ld6 (arg6.view.read (Elt F) (harg6.unread xs0))))
    (View.ld (arg7.view.read (Elt F) (harg7.unread xs1)) (Rect.unit (s := S1x128) ![0, 0] S1x128.size inb_S1x128_S1x128_0_0))) (by sl_kernel_rfl) ?_
  rw [harg1.read_unread, harg2.read_unread, harg3.read_unread, harg4.read_unread, harg6.read_unread, harg7.read_unread, View.ld_unit_zero hz3, View.ld_unit_zero hz2]
  unfold k0_pay1
  dsimp only
  rw [shapeCast_self]

/-- The last point: the running vector plus what the point adds. -/
theorem sout_C (c : Dev nD) (i : grid0.Coords) (arg1 : Memref sig .tc .vmem S3x25x8x500 .f32) (harg1 : arg1.IsWhole) (arg2 : Memref sig .tc .vmem S7x25x8x500 .f32) (harg2 : arg2.IsWhole) (arg3 : Memref sig .tc .vmem S8x25x2x500 .f32) (harg3 : arg3.IsWhole) (arg4 : Memref sig .tc .vmem S8x8x64 .f32) (harg4 : arg4.IsWhole) (arg5 : Memref sig .tc .vmem S1x1x4 .f32) (harg5 : arg5.IsWhole) (arg6 : Memref sig .tc .vmem S8x9x500x64 .f32) (harg6 : arg6.IsWhole) (arg7 : Memref sig .tc .vmem S1x128 .f32) (harg7 : arg7.IsWhole) (hc0 : ¬cond0_0 i) (hc1 : cond0_1 i)
    (x0 : Vec F S3x25x8x500 .f32) (x1 : Vec F S7x25x8x500 .f32) (x2 : Vec F S8x25x2x500 .f32) (x3 : Vec F S8x8x64 .f32) (xs0 : Vec F S8x9x500x64 .f32) (xs1 : Vec F S1x128 .f32) :
    out0_C_4 c i arg1 harg1 arg2 harg2 arg3 harg3 arg4 harg4 arg5 harg5 arg6 harg6 arg7 harg7 hc0 hc1 x0 x1 x2 x3 xs0 xs1 = final (addf xs1 (lossVec (BitVec.ofNat 32 (i 0)) (ld1 x0) (ld2 x1) (ld3 x2) x3  (ld6 xs0))) := by
  unfold out0_C_4
  rw [View.read_writes_eq_canon _ _ _ (cover0_C_4 c i arg1 harg1 arg2 harg2 arg3 harg3 arg4 harg4 arg5 harg5 arg6 harg6 arg7 harg7 hc0 hc1 x0 x1 x2 x3 xs0 xs1)]
  unfold kernelRun0_C
  dsimp only
  rw [View.canon_unit_zero hz3]
  refine Eq.trans (b := final (arg7.view.readCov [(⟨Rect.unit (s := S1x128) ![0, 0] S1x128.size inb_S1x128_S1x128_0_0, k0_pay1 (lossVec (BitVec.ofNat 32 (i 0)) (ld1 (arg1.view.read (Elt F) (harg1.unread x0)))
    (ld2 (arg2.view.read (Elt F) (harg2.unread x1))) (ld3 (arg3.view.read (Elt F) (harg3.unread x2)))
    (View.ld (arg4.view.read (Elt F) (harg4.unread x3)) (Rect.unit (s := S8x8x64) ![0, 0, 0] S8x8x64.size inb_S8x8x64_S8x8x64_0_0_0))
    (ld6 (arg6.view.read (Elt F) (harg6.unread xs0))))
    (View.ld (arg7.view.read (Elt F) (harg7.unread xs1)) (Rect.unit (s := S1x128) ![0, 0] S1x128.size inb_S1x128_S1x128_0_0))⟩ : View.Piece (Elt F) S1x128 .f32)]
      (Rect.unit (s := S1x128) ![0, 0] S1x128.size inb_S1x128_S1x128_0_0).toLoadRect)) (by sl_kernel_rfl) ?_
  rw [View.readCov_unit_zero _ hz2]
  rw [harg1.read_unread, harg2.read_unread, harg3.read_unread, harg4.read_unread, harg6.read_unread, harg7.read_unread, View.ld_unit_zero hz3, View.ld_unit_zero hz2]
  unfold k0_pay1
  dsimp only
  rw [shapeCast_self]

/-- The tables' places, the last stored first. -/
def places : List (Fin 8 × Fin 9) :=
  ([7, 6, 5, 4, 3, 2, 1, 0] : List (Fin 8)).flatMap fun b => ([8, 7, 6, 5, 4, 3, 2, 1, 0] : List (Fin 9)).map fun j => (b, j)

/-- The first point's stores into the tables' buffer. -/
def stores (x : Vec F S8x8x64 .f32) : List (View.Piece (Elt F) S8x9x500x64 .f32) :=
  places.map fun p => ⟨rect6 p.1 p.2, table x p.1 p.2⟩

/-- The tables' buffer after the first point's stores. -/
def tables (x : Vec F S8x8x64 .f32) : Vec F S8x9x500x64 .f32 := View.canon (stores x)

/-- A read of a table after stores is a read of what the stores leave. -/
theorem readCov_ld6 (M : Memref sig .tc .vmem S8x9x500x64 .f32) (L : List (View.Piece (Elt F) S8x9x500x64 .f32)) (b : Fin 8) (j : Fin 9) :
    M.view.readCov L (rect6 b j).toLoadRect = ld6 (View.canon L) b j :=
  View.readCov_eq_canon' M.view L (rect6 b j).toLoadRect

/-- The first point leaves the tables. -/
theorem sout_A0 (c : Dev nD) (i : grid0.Coords) (arg1 : Memref sig .tc .vmem S3x25x8x500 .f32) (harg1 : arg1.IsWhole) (arg2 : Memref sig .tc .vmem S7x25x8x500 .f32) (harg2 : arg2.IsWhole) (arg3 : Memref sig .tc .vmem S8x25x2x500 .f32) (harg3 : arg3.IsWhole) (arg4 : Memref sig .tc .vmem S8x8x64 .f32) (harg4 : arg4.IsWhole) (arg5 : Memref sig .tc .vmem S1x1x4 .f32) (harg5 : arg5.IsWhole) (arg6 : Memref sig .tc .vmem S8x9x500x64 .f32) (harg6 : arg6.IsWhole) (arg7 : Memref sig .tc .vmem S1x128 .f32) (harg7 : arg7.IsWhole) (hc0 : cond0_0 i) (hc1 : ¬cond0_1 i)
    (x0 : Vec F S3x25x8x500 .f32) (x1 : Vec F S7x25x8x500 .f32) (x2 : Vec F S8x25x2x500 .f32) (x3 : Vec F S8x8x64 .f32) :
    sout0_A_0 c i arg1 harg1 arg2 harg2 arg3 harg3 arg4 harg4 arg5 harg5 arg6 harg6 arg7 harg7 hc0 hc1 x0 x1 x2 x3 = tables x3 := by
  unfold sout0_A_0
  rw [View.read_writes_eq_canon _ _ _ (scover0_A_0 c i arg1 harg1 arg2 harg2 arg3 harg3 arg4 harg4 arg5 harg5 arg6 harg6 arg7 harg7 hc0 hc1 x0 x1 x2 x3)]
  unfold kernelRun0_A
  dsimp only
  refine Eq.trans (b := View.canon (stores (View.ld (arg4.view.read (Elt F) (harg4.unread x3)) (Rect.unit (s := S8x8x64) ![0, 0, 0] S8x8x64.size inb_S8x8x64_S8x8x64_0_0_0)))) (by sl_kernel_rfl) ?_
  rw [harg4.read_unread, View.ld_unit_zero hz3]
  rfl

/-- The first point: zero plus what the point adds. -/
theorem sout_A1 (c : Dev nD) (i : grid0.Coords) (arg1 : Memref sig .tc .vmem S3x25x8x500 .f32) (harg1 : arg1.IsWhole) (arg2 : Memref sig .tc .vmem S7x25x8x500 .f32) (harg2 : arg2.IsWhole) (arg3 : Memref sig .tc .vmem S8x25x2x500 .f32) (harg3 : arg3.IsWhole) (arg4 : Memref sig .tc .vmem S8x8x64 .f32) (harg4 : arg4.IsWhole) (arg5 : Memref sig .tc .vmem S1x1x4 .f32) (harg5 : arg5.IsWhole) (arg6 : Memref sig .tc .vmem S8x9x500x64 .f32) (harg6 : arg6.IsWhole) (arg7 : Memref sig .tc .vmem S1x128 .f32) (harg7 : arg7.IsWhole) (hc0 : cond0_0 i) (hc1 : ¬cond0_1 i)
    (x0 : Vec F S3x25x8x500 .f32) (x1 : Vec F S7x25x8x500 .f32) (x2 : Vec F S8x25x2x500 .f32) (x3 : Vec F S8x8x64 .f32) :
    sout0_A_1 c i arg1 harg1 arg2 harg2 arg3 harg3 arg4 harg4 arg5 harg5 arg6 harg6 arg7 harg7 hc0 hc1 x0 x1 x2 x3 = addf (broadcast S1x128 (Scalar.ofBits .f32 0x00000000#32)) (lossVec (BitVec.ofNat 32 (i 0)) (ld1 x0) (ld2 x1) (ld3 x2) x3  (ld6 (tables x3))) := by
  unfold sout0_A_1
  rw [View.read_writes_eq_canon _ _ _ (scover0_A_1 c i arg1 harg1 arg2 harg2 arg3 harg3 arg4 harg4 arg5 harg5 arg6 harg6 arg7 harg7 hc0 hc1 x0 x1 x2 x3)]
  unfold kernelRun0_A
  dsimp only
  rw [View.canon_cons_unit_zero hz2]
  refine Eq.trans (b := k0_pay1 (lossVec (BitVec.ofNat 32 (i 0)) (ld1 (arg1.view.read (Elt F) (harg1.unread x0)))
    (ld2 (arg2.view.read (Elt F) (harg2.unread x1))) (ld3 (arg3.view.read (Elt F) (harg3.unread x2)))
    (View.ld (arg4.view.read (Elt F) (harg4.unread x3)) (Rect.unit (s := S8x8x64) ![0, 0, 0] S8x8x64.size inb_S8x8x64_S8x8x64_0_0_0))
    (fun b j => arg6.view.readCov (stores (View.ld (arg4.view.read (Elt F) (harg4.unread x3)) (Rect.unit (s := S8x8x64) ![0, 0, 0] S8x8x64.size inb_S8x8x64_S8x8x64_0_0_0))) (rect6 b j).toLoadRect))
    (arg7.view.readCov [(⟨Rect.unit (s := S1x128) ![0, 0] S1x128.size inb_S1x128_S1x128_0_0, shapeCast S1x128 (broadcast S1x128 (Scalar.ofBits .f32 0x00000000#32)) shapeCasts_S1x128_S1x128⟩ : View.Piece (Elt F) S1x128 .f32)]
      (Rect.unit (s := S1x128) ![0, 0] S1x128.size inb_S1x128_S1x128_0_0).toLoadRect)) (by sl_kernel_rfl) ?_
  rw [View.readCov_unit_zero _ hz2, harg1.read_unread, harg2.read_unread, harg3.read_unread, harg4.read_unread, View.ld_unit_zero hz3]
  have e : (fun (b : Fin 8) (j : Fin 9) => arg6.view.readCov (stores x3) (rect6 b j).toLoadRect) = ld6 (tables x3) :=
    funext fun b => funext fun j => readCov_ld6 _ _ _ _
  rw [e]
  unfold k0_pay1
  dsimp only
  rw [shapeCast_self, shapeCast_self]

end Cert.KernelIdeal.Loss

end
-- ==== Proof.Acc.lean ====
/- The kernel's result as a fold over the ten grid points, each point's blocks read off the arguments. -/
module

public import proofs.«01_k».proof.Proof.Words
public import Idealize.ShloMosaic.Lib.StableHlo.Run
public import Idealize.ShloMosaic.Lib.Tactic
public import Idealize.ShloMosaic.Lib.Pointwise

@[expose] public section

noncomputable section

namespace Cert.KernelIdeal.Loss

open Cert.KernelIdeal Cert.KernelIdeal.Gen Cert.KernelIdeal.Value Idealize.ShloMosaic Idealize.ShloMosaic.TcCoe Idealize.SL.Sem

variable {F : FTy → Type} [FloatOps F] [Named F]

/-! ## The stored tables read back -/

theorem mem_rect6 (b : Fin 8) (j : Fin 9) (i : S8x9x500x64.Idx) (h : i ∈ (rect6 b j).set) :
    (i 0).val = b.val ∧ (i 1).val = j.val := by
  have h' : ∀ a, (![b.val, j.val, 0, 0] : Fin 4 → ℕ) a ≤ i a ∧ (i a : ℕ) < (![b.val, j.val, 0, 0] : Fin 4 → ℕ) a + S1x1x500x64.size a :=
    Rect.mem_set_unit.mp h
  have e0 : b.val ≤ (i 0).val ∧ (i 0).val < b.val + 1 := h' 0
  have e1 : j.val ≤ (i 1).val ∧ (i 1).val < j.val + 1 := h' 1
  omega

theorem canon_places (x : Vec F S8x8x64 .f32) (b : Fin 8) (j : Fin 9) (y : (rect6 b j).shape.Idx) :
    ∀ l : List (Fin 8 × Fin 9), (b, j) ∈ l →
      View.canon (Val := Elt F) (l.map fun p => ⟨rect6 p.1 p.2, table x p.1 p.2⟩) ((rect6 b j).emb y) = table x b j y
  | [], h => absurd h List.not_mem_nil
  | q :: l, h => by
    by_cases hq : q = (b, j)
    · subst hq
      exact View.canon_cons_emb (rect6 b j) (table x b j) _ y
    · have hl : (b, j) ∈ l := by
        rcases List.mem_cons.mp h with rfl | h'
        · exact absurd rfl hq
        · exact h'
      rw [List.map_cons, View.canon_cons_of_not_mem _ _ ?_]
      · exact canon_places x b j y l hl
      · intro hm
        obtain ⟨e0, e1⟩ := mem_rect6 q.1 q.2 _ hm
        have key : ∀ u v w : ℕ, v < 1 → u + 1 * v = w → w = u := fun u v w h1 h2 => by omega
        have f0 : q.1.val = b.val := key b.val (y 0).val q.1.val (y 0).isLt e0
        have f1 : q.2.val = j.val := key j.val (y 1).val q.2.val (y 1).isLt e1
        exact hq (Prod.ext (Fin.ext f0) (Fin.ext f1))

theorem mem_places (b : Fin 8) (j : Fin 9) : (b, j) ∈ places := by
  revert b j; decide

theorem ld6_canon (x : Vec F S8x8x64 .f32) (b : Fin 8) (j : Fin 9) (l : List (Fin 8 × Fin 9)) (h : (b, j) ∈ l) :
    ld6 (View.canon (Val := Elt F) (l.map fun p => ⟨rect6 p.1 p.2, table x p.1 p.2⟩)) b j = table x b j :=
  funext fun y => canon_places x b j y l h

/-- Reading a table back gives the table. -/
theorem ld6_tables (x : Vec F S8x8x64 .f32) : ld6 (tables x) = table x := by
  funext b j
  exact ld6_canon x b j places (mem_places b j)

/-! ## The fold -/

variable (m : (ℓ : Loc nD τ sig) → Buf (Elt F) ℓ) (c : Dev nD)

theorem N_ten : cfg0.N = 10 := N_0

theorem N_pos : 0 < cfg0.N := lt_of_lt_of_eq (by decide) N_ten.symm

/-- The boxes as every grid point reads them. -/
def boxes : Vec F S8x8x64 .f32 := iblk m c 3 ⟨0, N_pos⟩

/-- What a grid point adds to the running vector, by its coordinate, its blocks and the boxes. -/
def vecAt (i : grid0.Coords) (x0 : Vec F S3x25x8x500 .f32) (x1 : Vec F S7x25x8x500 .f32) (x2 : Vec F S8x25x2x500 .f32)
    (x3 : Vec F S8x8x64 .f32) : FVec F S1x128 .f32 :=
  lossVec (BitVec.ofNat 32 (i 0)) (ld1 x0) (ld2 x1) (ld3 x2) x3 (table x3)

/-- What grid point `t` adds to the running vector. -/
def pointVec (t : Fin cfg0.N) : FVec F S1x128 .f32 :=
  vecAt (grid0.coords t) (iblk m c 0 t) (iblk m c 1 t) (iblk m c 2 t) (boxes m c)

/-- The running vector after grid point `n`. -/
def accV : (n : ℕ) → n < cfg0.N → FVec F S1x128 .f32
  | 0, h => addf (broadcast S1x128 (Scalar.ofBits .f32 0x00000000#32)) (pointVec m c ⟨0, h⟩)
  | n + 1, h => addf (accV n (Nat.lt_of_succ_lt h)) (pointVec m c ⟨n + 1, h⟩)

theorem iblk3 (t : Fin cfg0.N) : (iblk m c 3 t : Vec F S8x8x64 .f32) = boxes m c := by
  unfold boxes
  rcases fin_N0 t with rfl|rfl|rfl|rfl|rfl|rfl|rfl|rfl|rfl|rfl <;> rfl

theorem outs_zero (h : 0 < cfg0.N) :
    (outsAt0 m c 0 h).2 = (tables (boxes m c), accV m c 0 h) := by
  have e := outsAt0_A m c ⟨0, h⟩ (Nat.zero_mod _) (by show ¬ 0 % 10 = 9; omega)
  refine (congrArg Prod.snd e).trans ?_
  dsimp only
  rw [sout_A0, sout_A1, iblk3, ld6_tables]
  rfl

theorem step_B (t : Fin cfg0.N) (a : Vec F S1x1x4 .f32) (v : FVec F S1x128 .f32) (h0 : ¬t.val % 10 = 0) (h1 : ¬t.val % 10 = 9) :
    (stAt0 m c t.val t.isLt (a, tables (boxes m c), v)).2 = (tables (boxes m c), addf v (pointVec m c t)) := by
  refine (congrArg Prod.snd (stAt0_B m c t (a, tables (boxes m c), v) h0 h1)).trans ?_
  dsimp only
  rw [sout_B, iblk3, ld6_tables]
  unfold sout0_B_0 pointVec vecAt
  with_reducible rfl

theorem step_C (t : Fin cfg0.N) (a : Vec F S1x1x4 .f32) (v : FVec F S1x128 .f32) (h0 : ¬t.val % 10 = 0) (h1 : t.val % 10 = 9) :
    (stAt0 m c t.val t.isLt (a, tables (boxes m c), v)).1 = final (addf v (pointVec m c t)) := by
  refine (congrArg Prod.fst (stAt0_C m c t (a, tables (boxes m c), v) h0 h1)).trans ?_
  dsimp only
  rw [sout_C, iblk3, ld6_tables]
  rfl

theorem outs_mid (n : ℕ) : ∀ (h : n < cfg0.N), n < 9 → (outsAt0 m c n h).2 = (tables (boxes m c), accV m c n h) := by
  induction n with
  | zero => exact fun h _ => outs_zero m c h
  | succ n ih =>
    intro h h9
    have e := ih (Nat.lt_of_succ_lt h) (by omega)
    rw [outsAt0_succ]
    generalize outsAt0 m c n _ = p at e ⊢
    obtain ⟨a, q⟩ := p
    obtain rfl : q = _ := e
    exact step_B m c ⟨n + 1, h⟩ a _ (by show ¬ (n + 1) % 10 = 0; omega) (by show ¬ (n + 1) % 10 = 9; omega)

/-- The kernel's result is the final formula on the running vector after the last grid point. -/
theorem G4_eq : G4 m c = final (accV m c 9 (lt_of_lt_of_eq (by decide) N_ten.symm)) := by
  have h : 8 + 1 < cfg0.N := lt_of_lt_of_eq (by decide) N_ten.symm
  have e := outs_mid m c 8 (Nat.lt_of_succ_lt h) (by omega)
  rw [G4_last, ← outsAt0_sweep m c (8 + 1) h, outsAt0_succ]
  generalize outsAt0 m c 8 _ = p at e ⊢
  obtain ⟨a, q⟩ := p
  obtain rfl : q = _ := e
  exact step_C m c ⟨8 + 1, h⟩ a _ (by show ¬ (8 + 1) % 10 = 0; omega) (by show (8 + 1) % 10 = 9; omega)

/-! ## The blocks -/

theorem V_v0 : V m c main_v0 = transpose S3x250x8x500 [1, 2, 0, 3] (m ((c : Thread nD τ).loc main_arg0)) transposes_S8x3x250x500_S3x250x8x500_1_2_0_3 := by
  show StableHlo.after hostOps0 _ (Proc.devRef .tc main_v0) = _
  after_results

theorem V_v1 : V m c main_v1 = transpose S7x250x8x500 [1, 2, 0, 3] (m ((c : Thread nD τ).loc main_arg1)) transposes_S8x7x250x500_S7x250x8x500_1_2_0_3 := by
  show StableHlo.after hostOps0 _ (Proc.devRef .tc main_v1) = _
  after_results

theorem V_v2 : V m c main_v2 = transpose S8x250x2x500 [0, 2, 1, 3] (m ((c : Thread nD τ).loc main_arg2)) transposes_S8x2x250x500_S8x250x2x500_0_2_1_3 := by
  show StableHlo.after hostOps0 _ (Proc.devRef .tc main_v2) = _
  after_results

theorem V_v3 : V m c main_v3 = transpose S8x8x64 [0, 2, 1] (m ((c : Thread nD τ).loc main_arg3)) transposes_S8x64x8_S8x8x64_0_2_1 := by
  show StableHlo.after hostOps0 _ (Proc.devRef .tc main_v3) = _
  after_results

theorem win_index (t : Fin cfg0.N) :
    (win0_0.index t 0 = 0 ∧ win0_0.index t 1 = t.val ∧ win0_0.index t 2 = 0 ∧ win0_0.index t 3 = 0) ∧
    (win0_1.index t 0 = 0 ∧ win0_1.index t 1 = t.val ∧ win0_1.index t 2 = 0 ∧ win0_1.index t 3 = 0) ∧
    (win0_2.index t 0 = 0 ∧ win0_2.index t 1 = t.val ∧ win0_2.index t 2 = 0 ∧ win0_2.index t 3 = 0) ∧
    (win0_3.index t 0 = 0 ∧ win0_3.index t 1 = 0 ∧ win0_3.index t 2 = 0) := by
  rcases fin_N0 t with rfl|rfl|rfl|rfl|rfl|rfl|rfl|rfl|rfl|rfl <;> decide

/-- Row `r` of grid point `t` among all rows. -/
def rowAt (t : Fin cfg0.N) (r : Fin 25) : Fin 250 := ⟨25 * t.val + r.val, by have := lt_of_lt_of_eq t.isLt N_ten; omega⟩

/-- A class logit read by a grid point. -/
theorem cell1 (t : Fin cfg0.N) (k : Fin 3) (b : Fin 8) (r : Fin 25) (q : Fin 500) :
    cell (ld1 (iblk m c 0 t) k b) (ix2 r q) = m ((c : Thread nD τ).loc main_arg0) (ix4 b k (rowAt t r) q) := by
  obtain ⟨⟨h0, h1, h2, h3⟩, -⟩ := win_index t
  have e : cell (ld1 (iblk m c 0 t) k b) (ix2 r q) = (iblk m c 0 t : Vec F S3x25x8x500 .f32) (ix4 k r b q) := by
    pointwise [cell, ld1]
  rw [e]
  unfold iblk
  rw [View.read_apply]
  show V m c main_v0 _ = _
  rw [V_v0]
  refine Eq.trans (b := transpose S3x250x8x500 [1, 2, 0, 3] (m ((c : Thread nD τ).loc main_arg0)) transposes_S8x3x250x500_S3x250x8x500_1_2_0_3 (ix4 k (rowAt t r) b q)) ?_ ?_
  · congr 1; funext a; apply Fin.ext
    match a with
    | ⟨0, _⟩ => show win0_0.index t 0 * 3 + 1 * k.val = k.val; rw [h0]; omega
    | ⟨1, _⟩ => show win0_0.index t 1 * 25 + 1 * r.val = 25 * t.val + r.val; rw [h1]; omega
    | ⟨2, _⟩ => show win0_0.index t 2 * 8 + 1 * b.val = b.val; rw [h2]; omega
    | ⟨3, _⟩ => show win0_0.index t 3 * 500 + 1 * q.val = q.val; rw [h3]; omega
  · pointwise

/-- A regression logit read by a grid point. -/
theorem cell2 (t : Fin cfg0.N) (k : Fin 7) (b : Fin 8) (r : Fin 25) (q : Fin 500) :
    cell (ld2 (iblk m c 1 t) k b) (ix2 r q) = m ((c : Thread nD τ).loc main_arg1) (ix4 b k (rowAt t r) q) := by
  obtain ⟨-, ⟨h0, h1, h2, h3⟩, -⟩ := win_index t
  have e : cell (ld2 (iblk m c 1 t) k b) (ix2 r q) = (iblk m c 1 t : Vec F S7x25x8x500 .f32) (ix4 k r b q) := by
    pointwise [cell, ld2]
  rw [e]
  unfold iblk
  rw [View.read_apply]
  show V m c main_v1 _ = _
  rw [V_v1]
  refine Eq.trans (b := transpose S7x250x8x500 [1, 2, 0, 3] (m ((c : Thread nD τ).loc main_arg1)) transposes_S8x7x250x500_S7x250x8x500_1_2_0_3 (ix4 k (rowAt t r) b q)) ?_ ?_
  · congr 1; funext a; apply Fin.ext
    match a with
    | ⟨0, _⟩ => show win0_1.index t 0 * 7 + 1 * k.val = k.val; rw [h0]; omega
    | ⟨1, _⟩ => show win0_1.index t 1 * 25 + 1 * r.val = 25 * t.val + r.val; rw [h1]; omega
    | ⟨2, _⟩ => show win0_1.index t 2 * 8 + 1 * b.val = b.val; rw [h2]; omega
    | ⟨3, _⟩ => show win0_1.index t 3 * 500 + 1 * q.val = q.val; rw [h3]; omega
  · pointwise

/-- A direction logit read by a grid point. -/
theorem cell3 (t : Fin cfg0.N) (b : Fin 8) (k : Fin 2) (r : Fin 25) (q : Fin 500) :
    cell (ld3 (iblk m c 2 t) b k) (ix2 r q) = m ((c : Thread nD τ).loc main_arg2) (ix4 b k (rowAt t r) q) := by
  obtain ⟨-, -, ⟨h0, h1, h2, h3⟩, -⟩ := win_index t
  have e : cell (ld3 (iblk m c 2 t) b k) (ix2 r q) = (iblk m c 2 t : Vec F S8x25x2x500 .f32) (ix4 b r k q) := by
    pointwise [cell, ld3]
  rw [e]
  unfold iblk
  rw [View.read_apply]
  show V m c main_v2 _ = _
  rw [V_v2]
  refine Eq.trans (b := transpose S8x250x2x500 [0, 2, 1, 3] (m ((c : Thread nD τ).loc main_arg2)) transposes_S8x2x250x500_S8x250x2x500_0_2_1_3 (ix4 b (rowAt t r) k q)) ?_ ?_
  · congr 1; funext a; apply Fin.ext
    match a with
    | ⟨0, _⟩ => show win0_2.index t 0 * 8 + 1 * b.val = b.val; rw [h0]; omega
    | ⟨1, _⟩ => show win0_2.index t 1 * 25 + 1 * r.val = 25 * t.val + r.val; rw [h1]; omega
    | ⟨2, _⟩ => show win0_2.index t 2 * 2 + 1 * k.val = k.val; rw [h2]; omega
    | ⟨3, _⟩ => show win0_2.index t 3 * 500 + 1 * q.val = q.val; rw [h3]; omega
  · pointwise

/-- A channel of a box. -/
theorem chan_boxes (k : Fin 8) (b : Fin 8) (n : Fin 64) :
    chan (boxes m c) k (ix2 b n) = m ((c : Thread nD τ).loc main_arg3) (ix3 b n k) := by
  obtain ⟨-, -, -, h0, h1, h2⟩ := win_index (⟨0, N_pos⟩ : Fin cfg0.N)
  have e : chan (boxes m c) k (ix2 b n) = boxes m c (ix3 b k n) := by
    pointwise [chan]
  rw [e]
  unfold boxes iblk
  rw [View.read_apply]
  show V m c main_v3 _ = _
  rw [V_v3]
  refine Eq.trans (b := transpose S8x8x64 [0, 2, 1] (m ((c : Thread nD τ).loc main_arg3)) transposes_S8x64x8_S8x8x64_0_2_1 (ix3 b k n)) ?_ ?_
  · congr 1; funext a; apply Fin.ext
    match a with
    | ⟨0, _⟩ => show win0_3.index ⟨0, N_pos⟩ 0 * 8 + 1 * b.val = b.val; rw [h0]; omega
    | ⟨1, _⟩ => show win0_3.index ⟨0, N_pos⟩ 1 * 8 + 1 * k.val = k.val; rw [h1]; omega
    | ⟨2, _⟩ => show win0_3.index ⟨0, N_pos⟩ 2 * 64 + 1 * n.val = n.val; rw [h2]; omega
  · pointwise

/-- The grid point's coordinate is its number. -/
theorem coord_val (t : Fin cfg0.N) : (grid0.coords t 0).val = t.val := by
  rcases fin_N0 t with rfl|rfl|rfl|rfl|rfl|rfl|rfl|rfl|rfl|rfl <;> decide

end Cert.KernelIdeal.Loss

end
-- ==== Proof.Spec.lean ====
/- The loss in plain terms, with no program in sight: what a list of boxes says of a grid cell, the five sums over the
   cells, and the four numbers made of them. Both programs' results are shown to be these numbers. -/
module

public import Idealize.ShloMosaic.Lib.Pointwise

@[expose] public section

noncomputable section

namespace Cert.Spec

open Idealize.ShloMosaic
open scoped Classical

/-- What is known of each box: whether it lies on the grid, its row, column and class, whether it falls in the first
    direction bin, and its seven regression values. -/
structure Boxes where
  va : Fin 8 → Fin 64 → BitVec 1
  gy : Fin 8 → Fin 64 → BitVec 32
  gx : Fin 8 → Fin 64 → BitVec 32
  cid : Fin 8 → Fin 64 → BitVec 32
  db : Fin 8 → Fin 64 → BitVec 1
  rv : Fin 7 → Fin 8 → Fin 64 → EReal

namespace Boxes

/-- The boxes on the grid have a row and a column of the grid, and every box is of one of the three classes. -/
structure Good (T : Boxes) : Prop where
  row : ∀ b n, T.va b n = 1#1 → 0 ≤ (T.gy b n).toInt ∧ (T.gy b n).toInt < 250
  col : ∀ b n, T.va b n = 1#1 → 0 ≤ (T.gx b n).toInt ∧ (T.gx b n).toInt < 500
  cls : ∀ b n, ∃ c : Fin 3, T.cid b n = BitVec.ofNat 32 c.val

variable (T : Boxes)

/-- Box `n` of batch `b` lies in the cell of row `R` and column `Q`. -/
def InCell (b : Fin 8) (R : Fin 250) (Q : Fin 500) (n : Fin 64) : Prop :=
  T.va b n = 1#1 ∧ (T.gy b n).toInt = (R.val : ℤ) ∧ (T.gx b n).toInt = (Q.val : ℤ)

/-- Some box of class `c` lies in the cell. -/
def Hit (b : Fin 8) (c : Fin 3) (R : Fin 250) (Q : Fin 500) : Prop :=
  ∃ n, T.InCell b R Q n ∧ T.cid b n = BitVec.ofNat 32 c.val

/-- Some box of class `c` lies in the cell or in one of its eight neighbours. -/
def Near (b : Fin 8) (c : Fin 3) (R : Fin 250) (Q : Fin 500) : Prop :=
  ∃ n, T.va b n = 1#1 ∧ ((R.val : ℤ) - 1 ≤ (T.gy b n).toInt ∧ (T.gy b n).toInt ≤ (R.val : ℤ) + 1) ∧
    ((Q.val : ℤ) - 1 ≤ (T.gx b n).toInt ∧ (T.gx b n).toInt ≤ (Q.val : ℤ) + 1) ∧ T.cid b n = BitVec.ofNat 32 c.val

/-- The cell counts in the class loss: it is hit, or nothing of its class is near. -/
def Counts (b : Fin 8) (c : Fin 3) (R : Fin 250) (Q : Fin 500) : Prop := T.Hit b c R Q ∨ ¬ T.Near b c R Q

/-- Some box lies in the cell. -/
def Pos (b : Fin 8) (R : Fin 250) (Q : Fin 500) : Prop := ∃ n, T.InCell b R Q n

/-- Some box of direction bin `k` lies in the cell. -/
def Dir (b : Fin 8) (k : Fin 2) (R : Fin 250) (Q : Fin 500) : Prop :=
  ∃ n, T.InCell b R Q n ∧ (T.db b n = 1#1 ↔ k = 0)

/-- Box `n` is the last of the cell. -/
def LastIn (b : Fin 8) (R : Fin 250) (Q : Fin 500) (n : Fin 64) : Prop :=
  T.InCell b R Q n ∧ ∀ n', n < n' → ¬ T.InCell b R Q n'

/-- The regression target of the cell: value `i` of its last box. -/
def target (i : Fin 7) (b : Fin 8) (R : Fin 250) (Q : Fin 500) : EReal :=
  if h : ∃ n, T.LastIn b R Q n then T.rv i b h.choose else 0

variable {T}

/-- A cell has one last box only. -/
theorem LastIn.unique {b : Fin 8} {R : Fin 250} {Q : Fin 500} {n n' : Fin 64} (h : T.LastIn b R Q n) (h' : T.LastIn b R Q n') :
    n = n' := by
  rcases lt_trichotomy n n' with l | e | l
  · exact absurd h'.1 (h.2 _ l)
  · exact e
  · exact absurd h.1 (h'.2 _ l)

/-- A cell with a box has a last one. -/
theorem Pos.last {b : Fin 8} {R : Fin 250} {Q : Fin 500} (h : T.Pos b R Q) : ∃ n, T.LastIn b R Q n := by
  obtain ⟨n0, h0⟩ := h
  have hne : (Finset.univ.filter (T.InCell b R Q)).Nonempty := ⟨n0, by simpa using h0⟩
  refine ⟨(Finset.univ.filter (T.InCell b R Q)).max' hne, by simpa using Finset.max'_mem _ hne, fun n' hlt hin => ?_⟩
  exact absurd (Finset.le_max' _ n' (by simpa using hin)) (not_le.2 hlt)

/-- The target is the value of the cell's last box, whichever way that is named. -/
theorem LastIn.target {b : Fin 8} {R : Fin 250} {Q : Fin 500} {n : Fin 64} (h : T.LastIn b R Q n) (i : Fin 7) :
    T.target i b R Q = T.rv i b n := by
  have hx : ∃ n, T.LastIn b R Q n := ⟨n, h⟩
  unfold Boxes.target
  rw [dif_pos hx, hx.choose_spec.unique h]

end Boxes

/-- The logarithm of the sigmoid. -/
def ls (r : ℝ) : ℝ := -Real.log (1 + Real.exp (-r))

/-- The weight of a hit, by class. -/
def wt (c : Fin 3) : ℝ := if c = 0 then 1 / 4 else 5 / 4

/-- The class loss of a cell at a real logit, with the opposite sign. -/
def clsReal (c : Fin 3) (h : Prop) (r : ℝ) : ℝ :=
  if h then wt c * Real.exp (3 * ls (-r)) * ls r else 3 / 4 * Real.exp (3 * ls r) * ls (-r)

/-- The direction loss of a cell at a real logit, with the opposite sign. -/
def dirReal (h : Prop) (r : ℝ) : ℝ := if h then ls r else ls (-r)

/-- A loss, with the opposite sign, at a logit that may be plus infinity: there it is nought at a hit and infinite elsewhere. -/
def upTo (f : ℝ → ℝ) (h : Prop) (x : EReal) : EReal := if x = ⊤ then (if h then 0 else ⊥) else ((f x.toReal : ℝ) : EReal)

/-- The class loss of a cell, with the opposite sign. -/
def clsTerm (c : Fin 3) (h : Prop) (x : EReal) : EReal := upTo (clsReal c h) h x
/-- The direction loss of a cell, with the opposite sign. -/
def dirTerm (h : Prop) (x : EReal) : EReal := upTo (dirReal h) h x

theorem upTo_top (f : ℝ → ℝ) (h : Prop) : upTo f h ⊤ = if h then 0 else ⊥ := if_pos rfl
theorem upTo_coe (f : ℝ → ℝ) (h : Prop) (a : ℝ) : upTo f h (a : EReal) = ((f a : ℝ) : EReal) := by
  unfold upTo
  rw [if_neg (EReal.coe_ne_top a), EReal.toReal_coe]
theorem upTo_ne_top (f : ℝ → ℝ) (h : Prop) (x : EReal) : upTo f h x ≠ ⊤ := by
  unfold upTo
  split_ifs
  · exact EReal.zero_ne_top
  · exact bot_ne_top
  · exact EReal.coe_ne_top _

/-- The smooth absolute value. -/
def smooth (d : EReal) : EReal :=
  if max d (-d) < 1 then Ideal.ofBits .f32 0x3F000000#32 * d * d else max d (-d) - Ideal.ofBits .f32 0x3F000000#32

section
variable (T : Boxes) (x1 : Fin 8 → Fin 3 → Fin 250 → Fin 500 → EReal) (x2 : Fin 8 → Fin 7 → Fin 250 → Fin 500 → EReal)
  (x3 : Fin 8 → Fin 2 → Fin 250 → Fin 500 → EReal)

/-- The class loss over all cells, with the opposite sign. -/
def clsSum : EReal := ∑ b, ∑ c, ∑ R, ∑ Q, if T.Counts b c R Q then clsTerm c (T.Hit b c R Q) (x1 b c R Q) else 0
/-- How many cells count in the class loss. -/
def cntSum : EReal := ∑ b, ∑ c, ∑ R, ∑ Q, if T.Counts b c R Q then 1 else 0
/-- The regression loss over all cells. -/
def regSum : EReal := ∑ b, ∑ i, ∑ R, ∑ Q, if T.Pos b R Q then smooth (x2 b i R Q - T.target i b R Q) else 0
/-- How many cells hold a box. -/
def posSum : EReal := ∑ b, ∑ R, ∑ Q, if T.Pos b R Q then 1 else 0
/-- The direction loss over all cells, with the opposite sign. -/
def dirSum : EReal := ∑ b, ∑ k, ∑ R, ∑ Q, if T.Pos b R Q then dirTerm (T.Dir b k R Q) (x3 b k R Q) else 0
end

/-- A mean over a count that may be zero. -/
def mean (x n : EReal) : EReal := if 0 < n then Ideal.div x (max n 1) else 0

/-- The class loss from two sums. -/
def clsLoss (s0 s1 : EReal) : EReal := Ideal.div (-s0) (s1 + Ideal.ofBits .f32 0x358637BD#32)
/-- The regression loss from two sums. -/
def regLoss (s2 s3 : EReal) : EReal := mean s2 (s3 * Ideal.ofBits .f32 0x40E00000#32)
/-- The direction loss from two sums. -/
def dirLoss (s3 s4 : EReal) : EReal := mean (-s4) (s3 * Ideal.ofBits .f32 0x40000000#32)

/-- The four numbers: the weighted total, the class loss, the regression loss, the direction loss. -/
def result (s0 s1 s2 s3 s4 : EReal) (j : Fin 4) : EReal :=
  if j = 0 then 1 * clsLoss s0 s1 + Ideal.ofBits .f32 0x40000000#32 * regLoss s2 s3 + Ideal.ofBits .f32 0x3E4CCCCD#32 * dirLoss s3 s4
  else if j = 1 then clsLoss s0 s1 else if j = 2 then regLoss s2 s3 else dirLoss s3 s4

/-! ## Numbers -/

theorem bits_quarter : Ideal.ofBits .f32 0x3E800000#32 = ((1 / 4 : ℝ) : EReal) := by
  simp [Ideal.ofBits, Ideal.ieee, -EReal.coe_mul]; norm_num
theorem bits_five_quarters : Ideal.ofBits .f32 0x3FA00000#32 = ((5 / 4 : ℝ) : EReal) := by
  simp [Ideal.ofBits, Ideal.ieee, -EReal.coe_mul]; norm_num
theorem bits_three_quarters : Ideal.ofBits .f32 0x3F400000#32 = ((3 / 4 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_five : Ideal.ofBits .f32 0x40A00000#32 = ((5 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_five_halves : Ideal.ofBits .f32 0x40200000#32 = ((5 / 2 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_200 : Ideal.ofBits .f32 0x43480000#32 = ((200 : ℝ) : EReal) := by
  simp [Ideal.ofBits, Ideal.ieee, -EReal.coe_mul]; norm_num
theorem bits_50 : Ideal.ofBits .f32 0x42480000#32 = ((50 : ℝ) : EReal) := by
  simp [Ideal.ofBits, Ideal.ieee, -EReal.coe_mul]; norm_num
theorem bits_m50 : Ideal.ofBits .f32 0xC2480000#32 = ((-50 : ℝ) : EReal) := by
  simp [Ideal.ofBits, Ideal.ieee, -EReal.coe_mul]; norm_num

/-- The logarithm of the sigmoid at the opposite. -/
theorem ls_neg (r : ℝ) : ls (-r) = ls r - r := by
  unfold ls
  have e : 1 + Real.exp (- -r) = Real.exp r * (1 + Real.exp (-r)) := by
    rw [mul_add, ← Real.exp_add]; simp [add_comm]
  rw [e, Real.log_mul (Real.exp_ne_zero _) (by positivity), Real.log_exp]
  ring

/-- One less the sigmoid of the opposite exponent: the exponential of `ls`. -/
theorem exp_ls (r : ℝ) : Real.exp (ls r) = 1 / (1 + Real.exp (-r)) := by
  unfold ls
  rw [Real.exp_neg, Real.exp_log (by positivity), one_div]

theorem one_sub_exp_ls (r : ℝ) : 1 - Real.exp (ls r) = Real.exp (ls (-r)) := by
  rw [exp_ls, exp_ls, neg_neg]
  have : Real.exp r ≠ 0 := Real.exp_ne_zero r
  rw [Real.exp_neg]
  field_simp
  ring

/-- `log1p` of an exponential. -/
theorem log1p_exp (r : ℝ) : Ideal.log1p (Ideal.exp ((r : ℝ) : EReal)) = ((Real.log (1 + Real.exp r) : ℝ) : EReal) := by
  show Ideal.log (1 + ((Real.exp r : ℝ) : EReal)) = _
  rw [show (1 : EReal) + ((Real.exp r : ℝ) : EReal) = ((1 + Real.exp r : ℝ) : EReal) by norm_cast]
  show (if 1 + Real.exp r ≤ 0 then ⊥ else ((Real.log (1 + Real.exp r) : ℝ) : EReal)) = _
  rw [if_neg (not_le.2 (by positivity))]

theorem coe_abs (r : ℝ) : max ((r : ℝ) : EReal) (-(r : EReal)) = ((|r| : ℝ) : EReal) := by
  rw [← EReal.coe_neg]; exact (EReal.coe_strictMono.monotone.map_max).symm

end Cert.Spec

end
-- ==== Proof.Arith.lean ====
/- Facts on words and on sums of extended reals that the two programs' readings share. -/
module

public import proofs.«01_k».proof.Proof.Spec

@[expose] public section

noncomputable section

namespace Cert.Spec

open Idealize.ShloMosaic
open scoped Classical

/-! ## Bits -/

theorem ofBool_one (b : Bool) : BitVec.ofBool b = 1#1 ↔ b = true := by cases b <;> decide
theorem ofProp_one (p : Prop) [Decidable p] : BitVec.ofBool (decide p) = 1#1 ↔ p := by rw [ofBool_one, decide_eq_true_iff]
theorem and_one (a b : BitVec 1) : IntOp.andi a b = 1#1 ↔ a = 1#1 ∧ b = 1#1 := by revert a b; decide
theorem or_one (a b : BitVec 1) : IntOp.ori a b = 1#1 ↔ a = 1#1 ∨ b = 1#1 := by revert a b; decide
theorem flip_one (a : BitVec 1) : IntOp.xori a 1#1 = 1#1 ↔ ¬ a = 1#1 := by revert a; decide
theorem eq_one {w : ℕ} (a b : BitVec w) : IntOp.cmpi .eq a b = 1#1 ↔ a = b := by simp only [IntOp.cmpi, ofBool_one, beq_iff_eq]
theorem sle_one {w : ℕ} (a b : BitVec w) : IntOp.cmpi .sle a b = 1#1 ↔ a.toInt ≤ b.toInt := by
  simp only [IntOp.cmpi, ofBool_one, BitVec.sle_iff_toInt_le]
theorem sgt_one {w : ℕ} (a b : BitVec w) : IntOp.cmpi .sgt a b = 1#1 ↔ b.toInt < a.toInt := by
  simp only [IntOp.cmpi, ofBool_one, BitVec.slt_iff_toInt_lt]
theorem sge_one {w : ℕ} (a b : BitVec w) : IntOp.cmpi .sge a b = 1#1 ↔ b.toInt ≤ a.toInt := by
  simp only [IntOp.cmpi, ofBool_one, BitVec.sle_iff_toInt_le]
theorem slt_one {w : ℕ} (a b : BitVec w) : IntOp.cmpi .slt a b = 1#1 ↔ a.toInt < b.toInt := by
  simp only [IntOp.cmpi, ofBool_one, BitVec.slt_iff_toInt_lt]

/-- A choice by a bit is a choice by what the bit says. -/
theorem select_if {α : Type} {c : BitVec 1} {p : Prop} [Decidable p] (h : c = 1#1 ↔ p) (x y : α) :
    Scalar.select c x y = if p then x else y := by
  unfold Scalar.select
  by_cases hp : p
  · rw [if_pos hp]; exact if_pos (h.2 hp)
  · rw [if_neg hp]; exact if_neg (fun e => hp (h.1 e))

/-! ## Words -/

/-- A small number is its own representative. -/
theorem bmod_small (x : ℤ) (h : -10000 ≤ x ∧ x ≤ 10000) : Int.bmod x (2 ^ 32) = x := by
  simp only [Int.bmod_def]
  norm_num
  split_ifs <;> omega

theorem toInt_small (n : ℕ) (h : n < 1000) : (BitVec.ofNat 32 n).toInt = (n : ℤ) := by
  rw [BitVec.toInt_ofNat']; exact bmod_small _ (by omega)

/-- A word whose signed value is in a small range is that number's word. -/
theorem word_of_toInt {w : BitVec 32} {N : ℕ} (h0 : 0 ≤ w.toInt) (h1 : w.toInt < (N : ℤ)) (hN : N ≤ 1000) :
    ∃ k : ℕ, k < N ∧ w = BitVec.ofNat 32 k := by
  refine ⟨w.toInt.toNat, by omega, BitVec.eq_of_toInt_eq ?_⟩
  rw [toInt_small _ (by omega)]; omega

theorem ofNat_inj {a b : ℕ} (ha : a < 1000) (hb : b < 1000) : BitVec.ofNat 32 a = BitVec.ofNat 32 b ↔ a = b := by
  refine ⟨fun h => ?_, fun h => by rw [h]⟩
  have := congrArg BitVec.toInt h
  rw [toInt_small _ ha, toInt_small _ hb] at this
  omega

/-- A word in a small range is a number's word exactly when its signed value is the number. -/
theorem eq_word {w : BitVec 32} {n : ℕ} (hn : n < 1000) : BitVec.ofNat 32 n = w ↔ w.toInt = (n : ℤ) := by
  refine ⟨fun h => by rw [← h, toInt_small _ hn], fun h => BitVec.eq_of_toInt_eq ?_⟩
  rw [toInt_small _ hn, h]

/-- The signed difference of small numbers' words. -/
theorem toInt_sub {a b : BitVec 32} (ha : -1000 ≤ a.toInt ∧ a.toInt ≤ 1000) (hb : -1000 ≤ b.toInt ∧ b.toInt ≤ 1000) :
    (IntOp.subi a b).toInt = a.toInt - b.toInt := by
  show (a - b).toInt = _
  rw [BitVec.toInt_sub]; exact bmod_small _ (by omega)

/-- The absolute value of a small word. -/
theorem toInt_abs {a : BitVec 32} (ha : -2000 ≤ a.toInt ∧ a.toInt ≤ 2000) : (IntOp.absi a).toInt = |a.toInt| := by
  unfold IntOp.absi
  have hm := BitVec.msb_eq_toInt (x := a)
  split
  · next h =>
    rw [hm, decide_eq_true_iff] at h
    rw [BitVec.toInt_neg, abs_of_neg h]; exact bmod_small _ (by omega)
  · next h =>
    rw [hm, decide_eq_true_iff] at h
    rw [abs_of_nonneg (by omega)]

/-- The grid point's first row. -/
theorem first_row (t : ℕ) (ht : t < 10) : (Scalar.muli (BitVec.ofNat 32 t) 25#32).toInt = 25 * (t : ℤ) := by
  show (BitVec.ofNat 32 t * 25#32).toInt = _
  rw [BitVec.toInt_mul, toInt_small t (by omega)]
  show Int.bmod ((t : ℤ) * 25) (2 ^ 32) = _
  rw [bmod_small _ (by omega)]; omega

/-- A row of a grid point is a box's row. -/
theorem row_eq {t r : ℕ} (ht : t < 10) (hr : r < 25) {w : BitVec 32} (h0 : 0 ≤ w.toInt) (h1 : w.toInt < 250) :
    IntOp.cmpi .eq (BitVec.ofNat 32 r) (IntOp.subi w (Scalar.muli (BitVec.ofNat 32 t) 25#32)) = 1#1 ↔ w.toInt = ((25 * t + r : ℕ) : ℤ) := by
  rw [eq_one, eq_word (by omega), toInt_sub (by omega) (by rw [first_row t ht]; omega), first_row t ht]
  push_cast
  omega

/-- A row of a grid point is at most one away from a box's row. -/
theorem row_near {t r : ℕ} (ht : t < 10) (hr : r < 25) {w : BitVec 32} (h0 : 0 ≤ w.toInt) (h1 : w.toInt < 250) :
    IntOp.cmpi .sle (IntOp.absi (IntOp.subi (BitVec.ofNat 32 r) (IntOp.subi w (Scalar.muli (BitVec.ofNat 32 t) 25#32)))) 1#32 = 1#1 ↔
      ((25 * t + r : ℕ) : ℤ) - 1 ≤ w.toInt ∧ w.toInt ≤ ((25 * t + r : ℕ) : ℤ) + 1 := by
  have e : (IntOp.subi w (Scalar.muli (BitVec.ofNat 32 t) 25#32)).toInt = w.toInt - 25 * (t : ℤ) := by
    rw [toInt_sub (by omega) (by rw [first_row t ht]; omega), first_row t ht]
  have e2 := toInt_small r (by omega)
  have e3 : (IntOp.subi (BitVec.ofNat 32 r) (IntOp.subi w (Scalar.muli (BitVec.ofNat 32 t) 25#32))).toInt = r - (w.toInt - 25 * (t : ℤ)) := by
    rw [toInt_sub (by omega) (by omega), e, e2]
  rw [sle_one, toInt_abs (by omega), e3]
  show |_| ≤ (1 : ℤ) ↔ _
  rw [abs_le]
  push_cast
  constructor <;> intro h <;> constructor <;> omega

/-- A column is at most one away from a box's column. -/
theorem col_near {q : ℕ} (hq : q < 500) {w : BitVec 32} (h0 : 0 ≤ w.toInt) (h1 : w.toInt < 500) :
    IntOp.cmpi .sle (IntOp.absi (IntOp.subi (BitVec.ofNat 32 q) w)) 1#32 = 1#1 ↔ (q : ℤ) - 1 ≤ w.toInt ∧ w.toInt ≤ (q : ℤ) + 1 := by
  have e2 := toInt_small q (by omega)
  have e3 : (IntOp.subi (BitVec.ofNat 32 q) w).toInt = q - w.toInt := by
    rw [toInt_sub (by omega) (by omega), e2]
  rw [sle_one, toInt_abs (by omega), e3]
  show |_| ≤ (1 : ℤ) ↔ _
  rw [abs_le]
  constructor <;> intro h <;> constructor <;> omega

/-! ## Sums of extended reals -/

/-- A sum of numbers that are not negative is positive exactly when one of them is. -/
theorem sum_pos {ι : Type} [Fintype ι] (f : ι → EReal) (h : ∀ i, 0 ≤ f i) : 0 < ∑ i, f i ↔ ∃ i, 0 < f i := by
  have e := Finset.sum_eq_zero_iff_of_nonneg (s := Finset.univ) (f := f) fun i _ => h i
  have hn : 0 ≤ ∑ i, f i := Finset.sum_nonneg fun i _ => h i
  constructor
  · intro hp
    by_contra hc
    push Not at hc
    exact hp.ne' (e.2 fun i _ => le_antisymm (hc i) (h i))
  · rintro ⟨i, hi⟩
    exact lt_of_le_of_ne hn fun h0 => hi.ne' (e.1 h0.symm i (Finset.mem_univ i))

/-- A count by two bits. -/
theorem count_nonneg {ι : Type} [Fintype ι] (a b : ι → BitVec 1) : 0 ≤ ∑ i, Scalar.select (a i) (Scalar.select (b i) (1 : EReal) 0) 0 := by
  refine Finset.sum_nonneg fun i _ => ?_
  unfold Scalar.select
  split_ifs <;> simp

/-- A count by two bits is positive exactly when both are set somewhere. -/
theorem count_pos {ι : Type} [Fintype ι] (a b : ι → BitVec 1) :
    0 < ∑ i, Scalar.select (a i) (Scalar.select (b i) (1 : EReal) 0) 0 ↔ ∃ i, a i = 1#1 ∧ b i = 1#1 := by
  rw [sum_pos]
  · refine exists_congr fun i => ?_
    rw [select_if Iff.rfl, select_if Iff.rfl]
    by_cases ha : a i = 1#1 <;> by_cases hb : b i = 1#1 <;> simp [ha, hb]
  · intro i
    unfold Scalar.select
    split_ifs <;> simp

/-- A sum of real numbers, as an extended real. -/
theorem coe_sum {ι : Type} (s : Finset ι) (f : ι → ℝ) : ((∑ i ∈ s, f i : ℝ) : EReal) = ∑ i ∈ s, ((f i : ℝ) : EReal) := by
  induction s using Finset.induction_on with
  | empty => simp
  | insert a s ha ih => rw [Finset.sum_insert ha, Finset.sum_insert ha, EReal.coe_add, ih]

/-- A number above minus infinity is real or plus infinity. -/
theorem real_or_top {x : EReal} (h : x ≠ ⊥) : (∃ a : ℝ, x = (a : EReal)) ∨ x = ⊤ := by
  induction x using EReal.rec with
  | bot => exact absurd rfl h
  | top => exact .inr rfl
  | coe a => exact .inl ⟨a, rfl⟩

/-- `log1p` of the exponential of minus infinity. -/
theorem log1p_exp_bot : Ideal.log1p (Ideal.exp ⊥) = 0 := by
  show Ideal.log (1 + (0 : EReal)) = 0
  rw [add_zero, ← EReal.coe_one]
  show (if (1 : ℝ) ≤ 0 then ⊥ else ((Real.log 1 : ℝ) : EReal)) = 0
  rw [if_neg (by norm_num), Real.log_one, EReal.coe_zero]

/-- A sum of numbers below plus infinity is below it, and its opposite is the sum of the opposites. -/
theorem neg_sum {ι : Type} (s : Finset ι) (f : ι → EReal) (h : ∀ i, f i ≠ ⊤) : ∑ i ∈ s, f i ≠ ⊤ ∧ ∑ i ∈ s, -f i = -∑ i ∈ s, f i := by
  induction s using Finset.induction_on with
  | empty => simp
  | insert a s ha ih =>
    rw [Finset.sum_insert ha, Finset.sum_insert ha, ih.2, EReal.neg_add (.inr ih.1) (.inl (h a))]
    exact ⟨fun e => (EReal.add_lt_top (h a) ih.1).ne e, sub_eq_add_neg _ _ |>.symm⟩

/-- A sum over ten times twenty-five rows is a sum over all rows. -/
theorem sum_rows {M : Type} [AddCommMonoid M] (f : Fin 250 → M) :
    ∑ t : Fin 10, ∑ r : Fin 25, f ⟨25 * t.val + r.val, by omega⟩ = ∑ R, f R := by
  rw [← Fintype.sum_equiv (finProdFinEquiv (m := 10) (n := 25)) (fun p => f ⟨25 * p.1.val + p.2.val, by omega⟩) f
    (fun p => congrArg f (Fin.ext (by simp [finProdFinEquiv, add_comm])))]
  rw [Fintype.sum_prod_type]

end Cert.Spec

end
-- ==== Proof.Cells.lean ====
/- What the kernel's tables and counts say of a grid cell, over the extended reals: the counts are positive exactly when
   a box of the class lies in the cell, or near it, and the regression table holds the value of the cell's last box. -/
module

public import proofs.«01_k».proof.Proof.Acc
public import proofs.«01_k».proof.Proof.Arith

@[expose] public section

set_option maxRecDepth 16384

noncomputable section

namespace Cert.KernelIdeal.Loss

open Cert.KernelIdeal Cert.KernelIdeal.Gen Idealize.ShloMosaic Idealize.ShloMosaic.TcCoe Idealize.SL.Sem
open Cert.Spec (and_one or_one flip_one eq_one ofProp_one select_if)
open scoped Classical

/-- The kernel's boxes. -/
def kb (g : Vec Ideal S8x8x64 .f32) : Spec.Boxes where
  va b n := valid g (ix2 b n)
  gy b n := gy g (ix2 b n)
  gx b n := gx g (ix2 b n)
  cid b n := cid g (ix2 b n)
  db b n := dbin g (ix2 b n)
  rv i b n := rv g i (ix2 b n)

/-- A grid point's row among all rows, by the point's number. -/
def rowN (t : Fin 10) (r : Fin 25) : Fin 250 := ⟨25 * t.val + r.val, by omega⟩

variable {g : Vec Ideal S8x8x64 .f32} (hT : (kb g).Good) (t : Fin 10)

/-- The word of a grid point. -/
abbrev pt (t : Fin 10) : BitVec 32 := BitVec.ofNat 32 t.val

theorem dotRows_apply (rows : IVec S25x64 1) (cols : Vec Ideal S1x1x500x64 .f32) (r : Fin 25) (q : Fin 500) :
    dotRows (F := Ideal) rows cols (ix2 r q) = ∑ n : Fin 64, Scalar.select (rows (ix2 r n)) (cols (ix4 0 0 q n)) 0 := by
  pointwise [dotRows]

theorem sumOn_apply (k : IVec S25x500 1) (v : FVec Ideal S25x500 .f32) :
    sumOn (F := Ideal) k v = ∑ r : Fin 25, ∑ q : Fin 500, Scalar.select (k (ix2 r q)) (v (ix2 r q)) 0 := by
  pointwise [sumOn, cst]

theorem isPos_apply (v : FVec Ideal S25x500 .f32) (r : Fin 25) (q : Fin 500) :
    isPos (F := Ideal) v (ix2 r q) = 1#1 ↔ 0 < v (ix2 r q) := by
  pointwise [isPos, cst]
  rw [ofProp_one]

theorem rowsEq_apply (p : BitVec 32) (b : Fin 8) (r : Fin 25) (n : Fin 64) :
    rowsEq p g b (ix2 r n) = IntOp.cmpi .eq (BitVec.ofNat 32 r.val) (IntOp.subi (gy g (ix2 b n)) (Scalar.muli p 25#32)) := by
  pointwise [rowsEq, gyRel, rowOf]

theorem rowsNear_apply (p : BitVec 32) (b : Fin 8) (r : Fin 25) (n : Fin 64) :
    rowsNear p g b (ix2 r n) = IntOp.cmpi .sle
      (IntOp.absi (IntOp.subi (BitVec.ofNat 32 r.val) (IntOp.subi (gy g (ix2 b n)) (Scalar.muli p 25#32)))) 1#32 := by
  pointwise [rowsNear, gyRel, rowOf]

theorem isCls_apply (b : Fin 8) (c : BitVec 32) (r : Fin 25) (n : Fin 64) :
    isCls g b c (ix2 r n) = IntOp.cmpi .eq (cid g (ix2 b n)) c := by
  pointwise [isCls, rowOf]

theorem table_zero (b : Fin 8) (q : Fin 500) (n : Fin 64) : table (F := Ideal) g b 0 (ix4 0 0 q n) =
    Scalar.select (IntOp.andi (IntOp.cmpi .eq (BitVec.ofNat 32 q.val) (gx g (ix2 b n))) (valid g (ix2 b n))) (1 : EReal) 0 := by
  pointwise [table, colsHit, ind500, colsEq, validC, rowOf]

theorem table_one (b : Fin 8) (q : Fin 500) (n : Fin 64) : table (F := Ideal) g b 1 (ix4 0 0 q n) =
    Scalar.select (IntOp.andi (IntOp.cmpi .sle (IntOp.absi (IntOp.subi (BitVec.ofNat 32 q.val) (gx g (ix2 b n)))) 1#32)
      (valid g (ix2 b n))) (1 : EReal) 0 := by
  pointwise [table, colsNear, ind500, colsEq, validC, rowOf]

theorem keepRv_apply (b : Fin 8) (i : Fin 7) (q : Fin 500) (n : Fin 64) : keepRv (F := Ideal) g b i (ix2 q n) =
    Scalar.select (IntOp.andi (IntOp.cmpi .eq (BitVec.ofNat 32 q.val) (gx g (ix2 b n))) (isLast g b (ix2 0 n))) (rv g i (ix2 b n)) 0 := by
  pointwise [keepRv, colsEq, rowOf]

theorem table_keep (b : Fin 8) (i : Fin 7) (q : Fin 500) (n : Fin 64) :
    table (F := Ideal) g b ⟨2 + i.val, by omega⟩ (ix4 0 0 q n) = keepRv g b i (ix2 q n) := by
  fin_cases i <;> (unfold table; dsimp only; pointwise)

include hT

/-- A box is counted in a cell of its row and column. -/
theorem hit_iff (b : Fin 8) (r : Fin 25) (q : Fin 500) (n : Fin 64) :
    (rowsEq (pt t) g b (ix2 r n) = 1#1 ∧ (IntOp.cmpi .eq (BitVec.ofNat 32 q.val) (gx g (ix2 b n)) = 1#1 ∧ valid g (ix2 b n) = 1#1)) ↔
      (kb g).InCell b (rowN t r) q n := by
  rw [rowsEq_apply, eq_one (BitVec.ofNat 32 q.val), Spec.eq_word (by omega)]
  constructor
  · rintro ⟨h1, h2, h3⟩
    obtain ⟨a, b'⟩ := hT.row b n h3
    exact ⟨h3, (Spec.row_eq t.isLt r.isLt a b').1 h1, h2⟩
  · rintro ⟨h3, h1, h2⟩
    obtain ⟨a, b'⟩ := hT.row b n h3
    exact ⟨(Spec.row_eq t.isLt r.isLt a b').2 h1, h2, h3⟩

/-- The hit count of a cell is positive exactly when a box of the class lies in the cell. -/
theorem hitCnt_pos (b : Fin 8) (c : Fin 3) (r : Fin 25) (q : Fin 500) :
    0 < hitCnt (F := Ideal) (pt t) g (table g) b (clsW c) (ix2 r q) ↔ (kb g).Hit b c (rowN t r) q := by
  unfold hitCnt
  rw [dotRows_apply]
  simp only [table_zero]
  rw [Spec.count_pos]
  refine exists_congr fun n => ?_
  rw [← hit_iff hT t b r q n]
  show IntOp.andi (rowsEq (pt t) g b (ix2 r n)) (isCls g b (clsW c) (ix2 r n)) = 1#1 ∧ _ ↔ _
  rw [and_one, and_one, isCls_apply, eq_one (cid g (ix2 b n))]
  show (_ ∧ cid g (ix2 b n) = clsW c) ∧ _ ↔ _ ∧ cid g (ix2 b n) = clsW c
  tauto

omit hT in
/-- A hit count is not negative. -/
theorem hitCnt_nonneg (b : Fin 8) (c : Fin 3) (r : Fin 25) (q : Fin 500) :
    0 ≤ hitCnt (F := Ideal) (pt t) g (table g) b (clsW c) (ix2 r q) := by
  unfold hitCnt
  rw [dotRows_apply]
  simp only [table_zero]
  exact Spec.count_nonneg _ _

/-- The near count of a cell is zero exactly when no box of the class lies in the cell or next to it. -/
theorem nearCnt_zero (b : Fin 8) (c : Fin 3) (r : Fin 25) (q : Fin 500) :
    nearCnt (F := Ideal) (pt t) g (table g) b (clsW c) (ix2 r q) = 0 ↔ ¬ (kb g).Near b c (rowN t r) q := by
  have h : 0 < nearCnt (F := Ideal) (pt t) g (table g) b (clsW c) (ix2 r q) ↔ (kb g).Near b c (rowN t r) q := by
    unfold nearCnt
    rw [dotRows_apply]
    simp only [table_one]
    rw [Spec.count_pos]
    refine exists_congr fun n => ?_
    show IntOp.andi (rowsNear (pt t) g b (ix2 r n)) (isCls g b (clsW c) (ix2 r n)) = 1#1 ∧ _ ↔ _
    rw [and_one, and_one, isCls_apply, eq_one (cid g (ix2 b n)), rowsNear_apply]
    constructor
    · rintro ⟨⟨h1, h2⟩, h3, h4⟩
      obtain ⟨a, a'⟩ := hT.row b n h4
      obtain ⟨e, e'⟩ := hT.col b n h4
      exact ⟨h4, (Spec.row_near t.isLt r.isLt a a').1 h1, (Spec.col_near q.isLt e e').1 h3, h2⟩
    · rintro ⟨h4, h1, h3, h2⟩
      obtain ⟨a, a'⟩ := hT.row b n h4
      obtain ⟨e, e'⟩ := hT.col b n h4
      exact ⟨⟨(Spec.row_near t.isLt r.isLt a a').2 h1, h2⟩, (Spec.col_near q.isLt e e').2 h3, h4⟩
  rw [← h]
  have h0 : 0 ≤ nearCnt (F := Ideal) (pt t) g (table g) b (clsW c) (ix2 r q) := by
    unfold nearCnt
    rw [dotRows_apply]
    simp only [table_one]
    exact Spec.count_nonneg _ _
  exact ⟨fun e => by rw [e]; exact lt_irrefl _, fun e => le_antisymm (not_lt.1 e) h0⟩

/-- The cells that count in the class loss. -/
theorem vmask_iff (b : Fin 8) (c : Fin 3) (r : Fin 25) (q : Fin 500) :
    vmask (F := Ideal) (hitCnt (pt t) g (table g) b (clsW c)) (nearCnt (pt t) g (table g) b (clsW c)) (ix2 r q) = 1#1 ↔
      (kb g).Counts b c (rowN t r) q := by
  show IntOp.ori (isPos (F := Ideal) _ (ix2 r q)) (cmpf (F := Ideal) .oeq _ _ (ix2 r q)) = 1#1 ↔ _
  rw [or_one, isPos_apply, hitCnt_pos hT, Spec.Boxes.Counts, ← nearCnt_zero hT]
  refine or_congr Iff.rfl ?_
  pointwise [cst]
  rw [ofProp_one]

/-- The cells that hold a box. -/
theorem posM_iff (b : Fin 8) (r : Fin 25) (q : Fin 500) :
    posM (F := Ideal) (pt t) g (table g) b (ix2 r q) = 1#1 ↔ (kb g).Pos b (rowN t r) q := by
  unfold posM
  rw [isPos_apply]
  have e : ∀ a0 a1 a2 : EReal, 0 ≤ a0 → 0 ≤ a1 → 0 ≤ a2 → (0 < a0 + a1 + a2 ↔ 0 < a0 ∨ 0 < a1 ∨ 0 < a2) := by
    intro a0 a1 a2 h0 h1 h2
    constructor
    · intro h
      by_contra hc
      push Not at hc
      obtain ⟨k0, k1, k2⟩ := hc
      rw [le_antisymm k0 h0, le_antisymm k1 h1, le_antisymm k2 h2] at h
      simp at h
    · rintro (h | h | h)
      · exact lt_of_lt_of_le h (by rw [add_assoc]; exact le_add_of_nonneg_right (add_nonneg h1 h2))
      · exact lt_of_lt_of_le h (le_trans (le_add_of_nonneg_left h0) (le_add_of_nonneg_right h2))
      · exact lt_of_lt_of_le h (le_add_of_nonneg_left (add_nonneg h0 h1))
  show 0 < hitCnt (F := Ideal) (pt t) g (table g) b (clsW 0) (ix2 r q) + hitCnt (F := Ideal) (pt t) g (table g) b (clsW 1) (ix2 r q)
    + hitCnt (F := Ideal) (pt t) g (table g) b (clsW 2) (ix2 r q) ↔ _
  rw [e _ _ _ (hitCnt_nonneg t b 0 r q) (hitCnt_nonneg t b 1 r q) (hitCnt_nonneg t b 2 r q), hitCnt_pos hT, hitCnt_pos hT, hitCnt_pos hT]
  constructor
  · rintro (⟨n, h, -⟩ | ⟨n, h, -⟩ | ⟨n, h, -⟩) <;> exact ⟨n, h⟩
  · rintro ⟨n, h⟩
    obtain ⟨c, hc⟩ := hT.cls b n
    fin_cases c
    · exact .inl ⟨n, h, hc⟩
    · exact .inr (.inl ⟨n, h, hc⟩)
    · exact .inr (.inr ⟨n, h, hc⟩)

/-- A later box in the same cell. -/
theorem sameLater_iff (b : Fin 8) (n n' : Fin 64) : sameLater (F := Ideal) g b (ix2 n' n) = 1#1 ↔
    ((kb g).va b n = 1#1 ∧ (kb g).va b n' = 1#1 ∧ (kb g).gy b n' = (kb g).gy b n ∧ (kb g).gx b n' = (kb g).gx b n) ∧ n < n' := by
  pointwise [sameLater, rowsHit, colsHit, ind500, colsEq, validC, rowOf]
  simp only [and_one, ofProp_one, Spec.count_pos, eq_one, Spec.sgt_one]
  rw [Spec.toInt_small _ (by omega), Spec.toInt_small _ (by omega)]
  show ((_ ∧ _) ∧ _) ↔ (valid g (ix2 b n) = 1#1 ∧ valid g (ix2 b n') = 1#1 ∧ gy g (ix2 b n') = gy g (ix2 b n) ∧ gx g (ix2 b n') = gx g (ix2 b n)) ∧ n < n'
  rw [Fin.lt_def, Int.ofNat_lt]
  refine and_congr ?_ Iff.rfl
  constructor
  · rintro ⟨⟨x, ⟨h1, h2⟩, h3, h4⟩, ⟨y, ⟨k1, k2⟩, k3, k4⟩⟩
    exact ⟨h2, h4, h3.symm.trans h1, k3.symm.trans k1⟩
  · rintro ⟨h2, h4, e1, e2⟩
    obtain ⟨a, a'⟩ := hT.row b n h2
    obtain ⟨k, hk, ek⟩ := Spec.word_of_toInt (N := 250) a a' (by omega)
    obtain ⟨d, d'⟩ := hT.col b n h2
    obtain ⟨l, hl, el⟩ := Spec.word_of_toInt (N := 500) d d' (by omega)
    change gy g (ix2 b n) = _ at ek
    change gx g (ix2 b n) = _ at el
    exact ⟨⟨⟨k, hk⟩, ⟨ek.symm, h2⟩, (e1.trans ek).symm, h4⟩, ⟨⟨l, hl⟩, ⟨el.symm, h2⟩, (e2.trans el).symm, h4⟩⟩

omit hT in
/-- A fold by maximum of 0/1 numbers is positive exactly when one is set. -/
theorem fold_max_pos (k : Fin 64 → BitVec 1) :
    0 < Finset.fold max (Ideal.ofBits .f32 0xFF800000#32) (fun x => Scalar.select (k x) (1 : EReal) 0) Finset.univ ↔ ∃ x, k x = 1#1 := by
  have e : Ideal.ofBits .f32 0xFF800000#32 = ⊥ := by simp [Ideal.ofBits, Ideal.ieee]
  rw [e, Finset.lt_fold_max]
  constructor
  · rintro (h | ⟨x, -, h⟩)
    · exact absurd h (not_lt.2 bot_le)
    · refine ⟨x, ?_⟩
      by_contra hc
      rw [select_if Iff.rfl, if_neg hc] at h
      exact lt_irrefl _ h
  · rintro ⟨x, h⟩
    refine .inr ⟨x, Finset.mem_univ x, ?_⟩
    rw [select_if Iff.rfl, if_pos h]
    exact zero_lt_one

/-- The last box of a cell. -/
theorem isLast_iff (b : Fin 8) (n : Fin 64) : isLast (F := Ideal) g b (ix2 0 n) = 1#1 ↔
    (kb g).va b n = 1#1 ∧ ∀ n', n < n' → ¬ ((kb g).va b n' = 1#1 ∧ (kb g).gy b n' = (kb g).gy b n ∧ (kb g).gx b n' = (kb g).gx b n) := by
  pointwise [isLast, rowOf]
  rw [and_one, flip_one, ofProp_one, fold_max_pos]
  simp only [sameLater_iff hT]
  show valid g (ix2 b n) = 1#1 ∧ _ ↔ valid g (ix2 b n) = 1#1 ∧ _
  refine and_congr_right fun hv => ?_
  push Not
  constructor
  · intro h n' hn hv' hy hx
    exact absurd hn (not_lt.2 (h n' ⟨hv, hv', hy, hx⟩))
  · rintro h n' ⟨-, hv', hy, hx⟩
    by_contra hc
    exact h n' (not_le.1 hc) hv' hy hx

/-- A box is the last of its cell, by the kernel's tables. -/
theorem last_iff (b : Fin 8) (r : Fin 25) (q : Fin 500) (n : Fin 64) :
    (rowsEq (pt t) g b (ix2 r n) = 1#1 ∧ (IntOp.cmpi .eq (BitVec.ofNat 32 q.val) (gx g (ix2 b n)) = 1#1 ∧ isLast (F := Ideal) g b (ix2 0 n) = 1#1)) ↔
      (kb g).LastIn b (rowN t r) q n := by
  rw [isLast_iff hT, Spec.Boxes.LastIn, ← hit_iff hT]
  constructor
  · rintro ⟨h1, h2, h3, h4⟩
    refine ⟨⟨h1, h2, h3⟩, fun n' hn hin => ?_⟩
    have hc := (hit_iff hT t b r q n).1 ⟨h1, h2, h3⟩
    exact h4 n' hn ⟨hin.1, BitVec.eq_of_toInt_eq (hin.2.1.trans hc.2.1.symm), BitVec.eq_of_toInt_eq (hin.2.2.trans hc.2.2.symm)⟩
  · rintro ⟨⟨h1, h2, h3⟩, h4⟩
    refine ⟨h1, h2, h3, fun n' hn ⟨k1, k2, k3⟩ => h4 n' hn ?_⟩
    have hc := (hit_iff hT t b r q n).1 ⟨h1, h2, h3⟩
    exact ⟨k1, by rw [k2]; exact hc.2.1, by rw [k3]; exact hc.2.2⟩

/-- The regression table of a cell that holds a box: the value of its last box. -/
theorem regT_eq (b : Fin 8) (i : Fin 7) (r : Fin 25) (q : Fin 500) (hp : (kb g).Pos b (rowN t r) q) :
    dotRows (F := Ideal) (rowsEq (pt t) g b) (table g b ⟨2 + i.val, by omega⟩) (ix2 r q) = (kb g).target i b (rowN t r) q := by
  obtain ⟨n, hn⟩ := hp.last
  rw [hn.target, dotRows_apply]
  have key : ∀ k : Fin 64, Scalar.select (rowsEq (pt t) g b (ix2 r k)) (table (F := Ideal) g b ⟨2 + i.val, by omega⟩ (ix4 0 0 q k)) 0
      = if (kb g).LastIn b (rowN t r) q k then rv g i (ix2 b k) else 0 := by
    intro k
    rw [table_keep, keepRv_apply, select_if (and_one _ _), select_if Iff.rfl]
    have e := last_iff hT t b r q k
    by_cases h : (kb g).LastIn b (rowN t r) q k
    · rw [if_pos h, if_pos (e.2 h).1, if_pos (e.2 h).2]
    · rw [if_neg h]
      by_cases h1 : rowsEq (pt t) g b (ix2 r k) = 1#1
      · rw [if_pos h1, if_neg fun h2 => h (e.1 ⟨h1, h2⟩)]
      · rw [if_neg h1]
  rw [Finset.sum_congr rfl fun k _ => key k, Finset.sum_eq_single n]
  · rw [if_pos hn]; rfl
  · intro k _ hk
    rw [if_neg fun h => hk (h.unique hn)]
  · intro h; exact absurd (Finset.mem_univ n) h

/-- The direction bit of a cell. -/
theorem dirM_iff (b : Fin 8) (k : Fin 2) (r : Fin 25) (q : Fin 500) :
    isPos (F := Ideal) (dotRows (andi (rowsEq (pt t) g b) (broadcastTo S25x64 (dirRow g b k) broadcasts_S1x64_S25x64)) (table g b 0)) (ix2 r q) = 1#1 ↔
      (kb g).Dir b k (rowN t r) q := by
  rw [isPos_apply, dotRows_apply]
  simp only [table_zero]
  rw [Spec.count_pos]
  refine exists_congr fun n => ?_
  rw [← hit_iff hT t b r q n]
  have e : broadcastTo S25x64 (dirRow g b k) broadcasts_S1x64_S25x64 (ix2 r n) = 1#1 ↔ ((kb g).db b n = 1#1 ↔ k = 0) := by
    show _ ↔ (dbin g (ix2 b n) = 1#1 ↔ k = 0)
    fin_cases k
    · pointwise [dirRow, rowOf]; simp
    · pointwise [dirRow, rowOf]; rw [flip_one]; simp
  show IntOp.andi (rowsEq (pt t) g b (ix2 r n)) (broadcastTo S25x64 (dirRow g b k) broadcasts_S1x64_S25x64 (ix2 r n)) = 1#1 ∧ _ ↔ _
  rw [and_one, and_one, e]
  tauto

end Cert.KernelIdeal.Loss

end
-- ==== Proof.KerSum.lean ====
/- The kernel's result over the extended reals: the four numbers of the five sums over all cells. -/
module

public import proofs.«01_k».proof.Proof.Cells

@[expose] public section

set_option maxRecDepth 16384

noncomputable section

namespace Cert.KernelIdeal.Loss

open Cert.KernelIdeal Cert.KernelIdeal.Gen Idealize.ShloMosaic Idealize.ShloMosaic.TcCoe Idealize.SL.Sem
open Cert.Spec (and_one or_one flip_one eq_one ofProp_one select_if)
open scoped Classical

/-! ## One cell -/

/-- The kernel's logarithm of the sigmoid at a real logit. -/
theorem lsPos_apply (x : FVec Ideal S25x500 .f32) (r : Fin 25) (q : Fin 500) (a : ℝ) (h : x (ix2 r q) = (a : EReal)) :
    lsPos (F := Ideal) x (ix2 r q) = ((Spec.ls a : ℝ) : EReal) := by
  pointwise [lsPos, cst]
  rw [h, Ideal.absf_def, Spec.coe_abs, zero_sub, zero_sub, ← EReal.coe_neg, Spec.log1p_exp]
  by_cases h0 : 0 ≤ a
  · rw [if_pos (by exact_mod_cast h0), abs_of_nonneg h0, ← EReal.coe_neg]; rfl
  · rw [if_neg (by exact_mod_cast h0), abs_of_neg (not_le.1 h0), neg_neg, ← EReal.coe_sub]
    have := Spec.ls_neg a
    have e : Spec.ls (-a) = -Real.log (1 + Real.exp a) := by unfold Spec.ls; rw [neg_neg]
    congr 1
    linarith

/-- The kernel's logarithm of the sigmoid of the opposite, likewise. -/
theorem lsNeg_apply (x : FVec Ideal S25x500 .f32) (r : Fin 25) (q : Fin 500) (a : ℝ) (h : x (ix2 r q) = (a : EReal)) :
    lsNeg (F := Ideal) x (ix2 r q) = ((Spec.ls (-a) : ℝ) : EReal) := by
  show lsPos (F := Ideal) x (ix2 r q) - x (ix2 r q) = _
  rw [lsPos_apply x r q a h, h, ← EReal.coe_sub, Spec.ls_neg]

/-- At plus infinity they are nought and minus infinity. -/
theorem lsPos_top (x : FVec Ideal S25x500 .f32) (r : Fin 25) (q : Fin 500) (h : x (ix2 r q) = ⊤) : lsPos (F := Ideal) x (ix2 r q) = 0 := by
  pointwise [lsPos, cst]
  rw [h, if_pos le_top, Ideal.absf_def, zero_sub, zero_sub, max_eq_left le_top, EReal.neg_top, Spec.log1p_exp_bot, neg_zero]

theorem lsNeg_top (x : FVec Ideal S25x500 .f32) (r : Fin 25) (q : Fin 500) (h : x (ix2 r q) = ⊤) : lsNeg (F := Ideal) x (ix2 r q) = ⊥ := by
  show lsPos (F := Ideal) x (ix2 r q) - x (ix2 r q) = _
  rw [lsPos_top x r q h, h, zero_sub, EReal.neg_top]

/-- The kernel's class loss of a cell. -/
theorem clsTerm_apply (c : Fin 3) (k : IVec S25x500 1) (x : FVec Ideal S25x500 .f32) (r : Fin 25) (q : Fin 500) (p : Prop)
    (hk : k (ix2 r q) = 1#1 ↔ p) (h : x (ix2 r q) ≠ ⊥) :
    clsTerm (F := Ideal) (cwt c) k x (ix2 r q) = Spec.clsTerm c p (x (ix2 r q)) := by
  show (Scalar.select (k (ix2 r q)) (Ideal.ofBits .f32 (cwt c)) (Ideal.ofBits .f32 0x3F400000#32)
    * Ideal.exp (Ideal.ofBits .f32 0x40400000#32 * Scalar.select (k (ix2 r q)) (lsNeg (F := Ideal) x (ix2 r q)) (lsPos (F := Ideal) x (ix2 r q))))
    * Scalar.select (k (ix2 r q)) (lsPos (F := Ideal) x (ix2 r q)) (lsNeg (F := Ideal) x (ix2 r q)) = _
  rw [select_if hk, select_if hk, select_if hk, Spec.bits_three, Spec.bits_three_quarters]
  have ew : Ideal.ofBits .f32 (cwt c) = ((Spec.wt c : ℝ) : EReal) := by
    fin_cases c
    · exact Spec.bits_quarter.trans (by simp [Spec.wt])
    · exact Spec.bits_five_quarters.trans (by simp [Spec.wt])
    · exact Spec.bits_five_quarters.trans (by simp [Spec.wt])
  rw [ew]
  unfold Spec.clsTerm
  rcases Spec.real_or_top h with ⟨a, ha⟩ | ht
  · rw [lsPos_apply x r q a ha, lsNeg_apply x r q a ha, ha, Spec.upTo_coe]
    unfold Spec.clsReal
    by_cases hp : p
    · simp only [if_pos hp, ← EReal.coe_mul, Ideal.exp_coe]
    · simp only [if_neg hp, ← EReal.coe_mul, Ideal.exp_coe]
  · rw [lsPos_top x r q ht, lsNeg_top x r q ht, ht, Spec.upTo_top]
    by_cases hp : p
    · simp only [if_pos hp, mul_zero]
    · simp only [if_neg hp, mul_zero]
      rw [← EReal.coe_zero, Ideal.exp_coe, Real.exp_zero, ← EReal.coe_mul]
      exact EReal.coe_mul_bot_of_pos (by norm_num)

/-- The kernel's direction loss of a cell. -/
theorem dirTerm_apply (k : IVec S25x500 1) (x : FVec Ideal S25x500 .f32) (r : Fin 25) (q : Fin 500) (p : Prop)
    (hk : k (ix2 r q) = 1#1 ↔ p) (h : x (ix2 r q) ≠ ⊥) :
    Scalar.select (k (ix2 r q)) (lsPos (F := Ideal) x (ix2 r q)) (lsNeg (F := Ideal) x (ix2 r q)) = Spec.dirTerm p (x (ix2 r q)) := by
  rw [select_if hk]
  unfold Spec.dirTerm
  rcases Spec.real_or_top h with ⟨a, ha⟩ | ht
  · rw [lsPos_apply x r q a ha, lsNeg_apply x r q a ha, ha, Spec.upTo_coe]
    unfold Spec.dirReal
    split_ifs <;> rfl
  · rw [lsPos_top x r q ht, lsNeg_top x r q ht, ht, Spec.upTo_top]

/-- The kernel's smooth absolute value of a cell. -/
theorem smooth_apply (d : FVec Ideal S25x500 .f32) (r : Fin 25) (q : Fin 500) :
    smooth (F := Ideal) d (ix2 r q) = Spec.smooth (d (ix2 r q)) := by
  pointwise [smooth, cst]
  rfl

/-! ## One grid point -/

/-- Eight steps that add. -/
theorem chain8_eq (f : Fin 8 → EReal → EReal) (s : Fin 8 → EReal) (h : ∀ b a, f b a = a + s b) :
    chain8 (F := Ideal) f (0 : EReal) = ∑ b, s b := by
  unfold chain8
  simp only [h, Fin.sum_univ_eight, zero_add]

theorem add3_eq (s : Fin 3 → EReal) (a : EReal) : add3 (F := Ideal) s a = a + ∑ c, s c := by
  unfold add3
  simp only [Ideal.scalar_addf_def, Fin.sum_univ_three, add_assoc]

theorem add2_eq (s : Fin 2 → EReal) (a : EReal) : add2 (F := Ideal) s a = a + ∑ c, s c := by
  unfold add2
  simp only [Ideal.scalar_addf_def, Fin.sum_univ_two, add_assoc]

theorem add7_eq (s : Fin 7 → EReal) (a : EReal) : add7 (F := Ideal) s a = a + ∑ c, s c := by
  unfold add7
  simp only [Ideal.scalar_addf_def, Fin.sum_univ_seven, add_assoc]

section
variable {g : Vec Ideal S8x8x64 .f32} (hT : (kb g).Good) (t : Fin 10)
variable (l1 : Fin 3 → Fin 8 → Vec Ideal S1x25x1x500 .f32) (l2 : Fin 7 → Fin 8 → Vec Ideal S1x25x1x500 .f32)
  (l3 : Fin 8 → Fin 2 → Vec Ideal S1x25x1x500 .f32)
variable (x1 : Fin 8 → Fin 3 → Fin 250 → Fin 500 → EReal) (x2 : Fin 8 → Fin 7 → Fin 250 → Fin 500 → EReal)
  (x3 : Fin 8 → Fin 2 → Fin 250 → Fin 500 → EReal)

/-- What a grid point adds to lane `j`, by the five sums. -/
def fiveSums (s0 s1 s2 s3 s4 : EReal) (j : Fin 5) : EReal :=
  match j with | 0 => s0 | 1 => s1 | 2 => s2 | 3 => s3 | 4 => s4

/-- Lane `j` among the lanes. -/
abbrev ln (j : Fin 5) : Fin 128 := ⟨j.val, by omega⟩

theorem lane_apply (k : BitVec 32) (s : EReal) (l : Fin 128) :
    lane (F := Ideal) k s (ix2 0 l) = Scalar.select (IntOp.cmpi .eq (BitVec.ofNat 32 l.val) k) s 0 := by
  pointwise [lane]

theorem lossVec_lane (p : BitVec 32) (cm : Fin 8 → Fin 9 → Vec Ideal S1x1x500x64 .f32) (j : Fin 5) :
    lossVec (F := Ideal) p l1 l2 l3 g cm (ix2 0 (ln j)) = fiveSums
      (∑ b, ∑ c, Loss.clsSum p g cm l1 b c) (∑ b, ∑ c, Loss.vmSum p g cm b c) (∑ b, ∑ i, Loss.regSum p g cm l2 b i)
      (∑ b, Loss.posSum p g cm b) (∑ b, ∑ k, Loss.dirSum p g cm l3 b k) j := by
  have z : (Scalar.ofBits .f32 0x00000000#32 : Ideal .f32) = (0 : EReal) := Ideal.ofBits_zero_f32
  unfold lossVec
  rw [z, chain8_eq _ _ (fun b a => add3_eq _ a), chain8_eq _ _ (fun b a => add3_eq _ a), chain8_eq _ _ (fun b a => add7_eq _ a),
    chain8_eq (fun b a => Scalar.addf (F := Ideal) (φ := .f32) a (Loss.posSum p g cm b)) (fun b => Loss.posSum p g cm b) (fun b a => rfl),
    chain8_eq (fun b => add2 (Loss.dirSum p g cm l3 b)) _ (fun b a => add2_eq _ a)]
  show lane _ _ _ + lane _ _ _ + lane _ _ _ + lane _ _ _ + lane _ _ _ = _
  simp only [lane_apply]
  fin_cases j <;> simp [fiveSums, IntOp.cmpi, Scalar.select, ln]

include hT

theorem clsSum_eq (hf : ∀ b c R Q, x1 b c R Q ≠ ⊥)
    (h1 : ∀ b c r q, cell (l1 c b) (ix2 r q) = x1 b c (rowN t r) q) (b : Fin 8) (c : Fin 3) :
    Loss.clsSum (F := Ideal) (pt t) g (table g) l1 b c = ∑ r : Fin 25, ∑ q : Fin 500,
      if (kb g).Counts b c (rowN t r) q then Spec.clsTerm c ((kb g).Hit b c (rowN t r) q) (x1 b c (rowN t r) q) else 0 := by
  unfold Loss.clsSum
  rw [sumOn_apply]
  refine Finset.sum_congr rfl fun r _ => Finset.sum_congr rfl fun q _ => ?_
  have hl := h1 b c r q
  rw [select_if (vmask_iff hT t b c r q), clsTerm_apply c _ _ r q _ ((isPos_apply _ r q).trans (hitCnt_pos hT t b c r q))
    (by rw [hl]; exact hf b c (rowN t r) q), hl]

theorem vmSum_eq (b : Fin 8) (c : Fin 3) :
    Loss.vmSum (F := Ideal) (pt t) g (table g) b c = ∑ r : Fin 25, ∑ q : Fin 500, if (kb g).Counts b c (rowN t r) q then (1 : EReal) else 0 := by
  unfold Loss.vmSum
  rw [sumOn_apply]
  refine Finset.sum_congr rfl fun r _ => Finset.sum_congr rfl fun q _ => ?_
  rw [select_if (vmask_iff hT t b c r q)]
  congr 1
  exact Ideal.ofBits_one_f32

theorem regSum_eq (h2 : ∀ b i r q, cell (l2 i b) (ix2 r q) = x2 b i (rowN t r) q) (b : Fin 8) (i : Fin 7) :
    Loss.regSum (F := Ideal) (pt t) g (table g) l2 b i = ∑ r : Fin 25, ∑ q : Fin 500,
      if (kb g).Pos b (rowN t r) q then Spec.smooth (x2 b i (rowN t r) q - (kb g).target i b (rowN t r) q) else 0 := by
  unfold Loss.regSum
  rw [sumOn_apply]
  refine Finset.sum_congr rfl fun r _ => Finset.sum_congr rfl fun q _ => ?_
  rw [select_if (posM_iff hT t b r q), smooth_apply]
  by_cases hp : (kb g).Pos b (rowN t r) q
  · rw [if_pos hp, if_pos hp]
    show Spec.smooth (cell (l2 i b) (ix2 r q) - dotRows (F := Ideal) _ _ (ix2 r q)) = _
    rw [h2, regT_eq hT t b i r q hp]
  · rw [if_neg hp, if_neg hp]

theorem posSum_eq (b : Fin 8) :
    Loss.posSum (F := Ideal) (pt t) g (table g) b = ∑ r : Fin 25, ∑ q : Fin 500, if (kb g).Pos b (rowN t r) q then (1 : EReal) else 0 := by
  unfold Loss.posSum
  rw [sumOn_apply]
  refine Finset.sum_congr rfl fun r _ => Finset.sum_congr rfl fun q _ => ?_
  rw [select_if (posM_iff hT t b r q)]
  congr 1
  exact Ideal.ofBits_one_f32

theorem dirSum_eq (hf : ∀ b k R Q, x3 b k R Q ≠ ⊥)
    (h3 : ∀ b k r q, cell (l3 b k) (ix2 r q) = x3 b k (rowN t r) q) (b : Fin 8) (k : Fin 2) :
    Loss.dirSum (F := Ideal) (pt t) g (table g) l3 b k = ∑ r : Fin 25, ∑ q : Fin 500,
      if (kb g).Pos b (rowN t r) q then Spec.dirTerm ((kb g).Dir b k (rowN t r) q) (x3 b k (rowN t r) q) else 0 := by
  unfold Loss.dirSum
  rw [sumOn_apply]
  refine Finset.sum_congr rfl fun r _ => Finset.sum_congr rfl fun q _ => ?_
  have hl := h3 b k r q
  rw [select_if (posM_iff hT t b r q)]
  show (if _ then Scalar.select (isPos (F := Ideal) _ (ix2 r q)) (lsPos (F := Ideal) _ (ix2 r q)) (lsNeg (F := Ideal) _ (ix2 r q)) else 0) = _
  rw [dirTerm_apply _ _ r q _ (dirM_iff hT t b k r q) (by rw [hl]; exact hf b k (rowN t r) q), hl]

end

/-! ## All grid points -/

variable (m : (ℓ : Loc nD τ sig) → Buf (Elt Ideal) ℓ) (c : Dev nD)

/-- The running vector after grid point `n`, lane by lane: the sum of what the points so far add. -/
theorem accV_lane (l : Fin 128) : ∀ (n : ℕ) (h : n < cfg0.N), accV m c n h (ix2 0 l) =
    ∑ t : Fin (n + 1), pointVec m c ⟨t.val, lt_of_le_of_lt (Nat.lt_succ_iff.1 t.isLt) h⟩ (ix2 0 l) := by
  intro n
  induction n with
  | zero =>
    intro h
    show (Ideal.ofBits .f32 0x00000000#32 : EReal) + _ = _
    rw [Ideal.ofBits_zero_f32, zero_add, Fin.sum_univ_one]
    rfl
  | succ n ih =>
    intro h
    show accV m c n _ (ix2 0 l) + _ = _
    rw [ih, Fin.sum_univ_castSucc (n := n + 1)]
    rfl

/-- The class logits. -/
def X1 (b : Fin 8) (k : Fin 3) (R : Fin 250) (Q : Fin 500) : EReal := m ((c : Thread nD τ).loc main_arg0) (ix4 b k R Q)
/-- The regression logits. -/
def X2 (b : Fin 8) (k : Fin 7) (R : Fin 250) (Q : Fin 500) : EReal := m ((c : Thread nD τ).loc main_arg1) (ix4 b k R Q)
/-- The direction logits. -/
def X3 (b : Fin 8) (k : Fin 2) (R : Fin 250) (Q : Fin 500) : EReal := m ((c : Thread nD τ).loc main_arg2) (ix4 b k R Q)

/-- A sum over grid points, batches, channels and a point's rows is a sum over batches, channels and rows. -/
theorem sum_points {n k : ℕ} (f : Fin n → Fin k → Fin 250 → EReal) :
    ∑ t : Fin 10, ∑ b, ∑ i, ∑ r : Fin 25, f b i (rowN t r) = ∑ b, ∑ i, ∑ R, f b i R := by
  rw [Finset.sum_comm]
  refine Finset.sum_congr rfl fun b _ => ?_
  rw [Finset.sum_comm]
  exact Finset.sum_congr rfl fun i _ => Spec.sum_rows (f b i)

theorem sum_points' {n : ℕ} (f : Fin n → Fin 250 → EReal) :
    ∑ t : Fin 10, ∑ b, ∑ r : Fin 25, f b (rowN t r) = ∑ b, ∑ R, f b R := by
  rw [Finset.sum_comm]
  exact Finset.sum_congr rfl fun b _ => Spec.sum_rows (f b)

/-- The running vector's five sums. -/
theorem acc_eq (hT : (kb (boxes m c)).Good) (hf1 : ∀ b k R Q, X1 m c b k R Q ≠ ⊥)
    (hf3 : ∀ b k R Q, X3 m c b k R Q ≠ ⊥) (h : 9 < cfg0.N) (j : Fin 5) :
    accV m c 9 h (ix2 0 (ln j)) = fiveSums (Spec.clsSum (kb (boxes m c)) (X1 m c)) (Spec.cntSum (kb (boxes m c)))
      (Spec.regSum (kb (boxes m c)) (X2 m c)) (Spec.posSum (kb (boxes m c))) (Spec.dirSum (kb (boxes m c)) (X3 m c)) j := by
  have e : ∀ t : Fin 10, pointVec m c ⟨t.val, lt_of_le_of_lt (Nat.lt_succ_iff.1 t.isLt) h⟩ (ix2 0 (ln j)) = fiveSums
      (∑ b, ∑ k, ∑ r : Fin 25, ∑ q : Fin 500, if (kb (boxes m c)).Counts b k (rowN t r) q then
        Spec.clsTerm k ((kb (boxes m c)).Hit b k (rowN t r) q) (X1 m c b k (rowN t r) q) else 0)
      (∑ b, ∑ k, ∑ r : Fin 25, ∑ q : Fin 500, if (kb (boxes m c)).Counts b k (rowN t r) q then (1 : EReal) else 0)
      (∑ b, ∑ i, ∑ r : Fin 25, ∑ q : Fin 500, if (kb (boxes m c)).Pos b (rowN t r) q then
        Spec.smooth (X2 m c b i (rowN t r) q - (kb (boxes m c)).target i b (rowN t r) q) else 0)
      (∑ b, ∑ r : Fin 25, ∑ q : Fin 500, if (kb (boxes m c)).Pos b (rowN t r) q then (1 : EReal) else 0)
      (∑ b, ∑ k, ∑ r : Fin 25, ∑ q : Fin 500, if (kb (boxes m c)).Pos b (rowN t r) q then
        Spec.dirTerm ((kb (boxes m c)).Dir b k (rowN t r) q) (X3 m c b k (rowN t r) q) else 0) j := by
    intro t
    unfold pointVec vecAt
    rw [lossVec_lane, coord_val]
    congr 1
    · exact Finset.sum_congr rfl fun b _ => Finset.sum_congr rfl fun k _ => clsSum_eq hT t _ (X1 m c) hf1 (fun b k r q => cell1 m c _ k b r q) b k
    · exact Finset.sum_congr rfl fun b _ => Finset.sum_congr rfl fun k _ => vmSum_eq hT t b k
    · exact Finset.sum_congr rfl fun b _ => Finset.sum_congr rfl fun i _ => regSum_eq hT t _ (X2 m c) (fun b i r q => cell2 m c _ i b r q) b i
    · exact Finset.sum_congr rfl fun b _ => posSum_eq hT t b
    · exact Finset.sum_congr rfl fun b _ => Finset.sum_congr rfl fun k _ => dirSum_eq hT t _ (X3 m c) hf3 (fun b k r q => cell3 m c _ b k r q) b k
  rw [accV_lane, Finset.sum_congr rfl fun t _ => e t]
  fin_cases j
  · exact sum_points fun b k R => ∑ q, if (kb (boxes m c)).Counts b k R q then Spec.clsTerm k ((kb (boxes m c)).Hit b k R q) (X1 m c b k R q) else 0
  · exact sum_points fun b k R => ∑ q, if (kb (boxes m c)).Counts b k R q then (1 : EReal) else 0
  · exact sum_points fun b i R => ∑ q, if (kb (boxes m c)).Pos b R q then Spec.smooth (X2 m c b i R q - (kb (boxes m c)).target i b R q) else 0
  · exact sum_points' fun b R => ∑ q, if (kb (boxes m c)).Pos b R q then (1 : EReal) else 0
  · exact sum_points fun b k R => ∑ q, if (kb (boxes m c)).Pos b R q then Spec.dirTerm ((kb (boxes m c)).Dir b k R q) (X3 m c b k R q) else 0

/-- The final formula on a running vector is the four numbers of its five lanes. -/
theorem final_apply (s : FVec Ideal S1x128 .f32) (j : Fin 4) : final (F := Ideal) s (ix3 0 0 j) =
    Spec.result (s (ix2 0 (ln 0))) (s (ix2 0 (ln 1))) (s (ix2 0 (ln 2))) (s (ix2 0 (ln 3))) (s (ix2 0 (ln 4))) j := by
  pointwise [final, at4, totLoss, clsLoss, regLoss, dirLoss, meanOf, cnt, laneOf]
  unfold Spec.result Spec.clsLoss Spec.regLoss Spec.dirLoss Spec.mean
  simp only [zero_sub, one_mul]
  fin_cases j <;> rfl

/-- The kernel's result: the four numbers of the five sums over all cells. -/
theorem kernel_result (hT : (kb (boxes m c)).Good) (hf1 : ∀ b k R Q, X1 m c b k R Q ≠ ⊥)
    (hf3 : ∀ b k R Q, X3 m c b k R Q ≠ ⊥) (j : Fin 4) :
    Value.G4 m c (ix3 0 0 j) = Spec.result (Spec.clsSum (kb (boxes m c)) (X1 m c)) (Spec.cntSum (kb (boxes m c)))
      (Spec.regSum (kb (boxes m c)) (X2 m c)) (Spec.posSum (kb (boxes m c))) (Spec.dirSum (kb (boxes m c)) (X3 m c)) j := by
  rw [G4_eq, final_apply]
  simp only [acc_eq m c hT hf1 hf3]
  rfl

end Cert.KernelIdeal.Loss

end
-- ==== Proof.Places.lean ====
/- Where a scatter's updates land, in words and in whole numbers, and which update a place keeps. No program in sight. -/
module

public import proofs.«01_k».proof.Proof.Arith
public import Idealize.ShloMosaic.Lib.Routing.OpsSet

@[expose] public section

noncomputable section

namespace Cert.Spec

open Idealize.ShloMosaic
open scoped Classical

/-- An index word that counts from the end when negative. -/
def wrapw (k w : BitVec 32) : BitVec 32 := Scalar.select (IntOp.cmpi .slt w 0#32) (IntOp.addi w k) w

theorem wrapw_eq {k w : BitVec 32} (h : 0 ≤ w.toInt) : wrapw k w = w := by
  have e := select_if (slt_one w 0#32) (IntOp.addi w k) w
  refine e.trans (if_neg ?_)
  show ¬ w.toInt < 0
  omega

/-- A word that is far outside for a box off the grid lands at a place exactly when the box is on the grid and there. -/
theorem place_iff {v : BitVec 1} {w : BitVec 32} {R : ℕ} (hR : R < 1000) (h : v = 1#1 → 0 ≤ w.toInt) (k : BitVec 32) :
    (wrapw k (Scalar.select v w 1000000#32)).toInt = (R : ℤ) ↔ v = 1#1 ∧ w.toInt = (R : ℤ) := by
  by_cases hv : v = 1#1
  · have e : Scalar.select v w 1000000#32 = w := if_pos hv
    rw [e, wrapw_eq (h hv)]
    exact ⟨fun q => ⟨hv, q⟩, fun q => q.2⟩
  · have e : Scalar.select v w 1000000#32 = 1000000#32 := if_neg hv
    rw [e, wrapw_eq (by decide)]
    refine ⟨fun q => ?_, fun q => absurd q.1 hv⟩
    have : (1000000#32 : BitVec 32).toInt = 1000000 := by decide
    omega

theorem toInt_max {a b : BitVec 32} : (IntOp.maxsi a b).toInt = max a.toInt b.toInt := by
  unfold IntOp.maxsi
  have := BitVec.slt_iff_toInt_lt (x := a) (y := b)
  have := BitVec.sle_iff_toInt_le (x := a) (y := b)
  have := BitVec.slt_iff_toInt_lt (x := b) (y := a)
  have := BitVec.sle_iff_toInt_le (x := b) (y := a)
  split_ifs <;> simp_all <;> omega

theorem toInt_min {a b : BitVec 32} : (IntOp.minsi a b).toInt = min a.toInt b.toInt := by
  unfold IntOp.minsi
  have := BitVec.slt_iff_toInt_lt (x := a) (y := b)
  have := BitVec.sle_iff_toInt_le (x := a) (y := b)
  have := BitVec.slt_iff_toInt_lt (x := b) (y := a)
  have := BitVec.sle_iff_toInt_le (x := b) (y := a)
  split_ifs <;> simp_all <;> omega

/-- A neighbour's coordinate, kept on the grid. -/
theorem clip_toInt {w d : BitVec 32} {K : ℕ} (hK : K < 1000) (h0 : 0 ≤ w.toInt) (h1 : w.toInt < 1000) (hd : -1 ≤ d.toInt ∧ d.toInt ≤ 1) :
    (IntOp.minsi (BitVec.ofNat 32 K) (IntOp.maxsi 0#32 (IntOp.addi w d))).toInt = min (K : ℤ) (max 0 (w.toInt + d.toInt)) := by
  have e : (IntOp.addi w d).toInt = w.toInt + d.toInt := by
    show (w + d).toInt = _
    rw [BitVec.toInt_add]
    exact bmod_small _ (by omega)
  rw [toInt_min, toInt_max, toInt_small K hK, e]
  rfl

/-- The cells reached from a cell by the nine offsets are the cell and its neighbours. -/
theorem window_iff {y x R Q : ℤ} (hy : 0 ≤ y ∧ y < 250) (hx : 0 ≤ x ∧ x < 500) (hR : 0 ≤ R ∧ R < 250) (hQ : 0 ≤ Q ∧ Q < 500) :
    (∃ o : Fin 9, min (249 : ℤ) (max 0 (y + ((o.val / 3 : ℕ) - 1 : ℤ))) = R ∧ min (499 : ℤ) (max 0 (x + ((o.val % 3 : ℕ) - 1 : ℤ))) = Q) ↔
      (R - 1 ≤ y ∧ y ≤ R + 1) ∧ (Q - 1 ≤ x ∧ x ≤ Q + 1) := by
  constructor
  · rintro ⟨o, h1, h2⟩
    have : o.val < 9 := o.isLt
    omega
  · rintro ⟨h1, h2⟩
    refine ⟨⟨(3 * (R - y + 1) + (Q - x + 1)).toNat, by omega⟩, ?_, ?_⟩
    · show min (249 : ℤ) (max 0 (y + (((3 * (R - y + 1) + (Q - x + 1)).toNat / 3 : ℕ) - 1 : ℤ))) = R
      omega
    · show min (499 : ℤ) (max 0 (x + (((3 * (R - y + 1) + (Q - x + 1)).toNat % 3 : ℕ) - 1 : ℤ))) = Q
      omega

/-! ## What a place keeps -/

variable {α : Type} {s si u : Shape}

/-- A scatter of one value: the value where some update lands, the operand elsewhere. -/
theorem scatter_const (d : ScatterDims s si u) (x0 : s.Idx → α) (idx : IVec si 32) (upd : u.Idx → α) (ι : s.Idx) (v : α)
    (hv : ∀ k, upd k = v) (p : Prop) [Decidable p] (hp : (∃ k, d.resultIdx? k idx = some ι) ↔ p) :
    Host.scatter d (fun _ b => b) x0 idx upd ι = if p then v else x0 ι := by
  by_cases h : p
  · rw [if_pos h]
    obtain ⟨k, hk⟩ := hp.2 h
    exact Routing.scatter_set_hit d x0 idx upd ι v (fun k _ => hv k) k hk
  · rw [if_neg h]
    exact Routing.scatter_set_miss d x0 idx upd ι fun k hk => h (hp.1 ⟨k, hk⟩)

/-- Of steps that overwrite, the last one that applies decides. -/
theorem foldl_last {ι : Type} (P : ι → Prop) [DecidablePred P] (v : ι → α) (n : ι) (hn : P n) : ∀ (l : List ι) (a : α), n ∈ l → l.Pairwise (fun i j => i = n → ¬ P j) →
    l.foldl (fun a i => if P i then v i else a) a = v n := by
  have miss : ∀ (l : List ι) (a : α), (∀ j ∈ l, ¬ P j) → l.foldl (fun a i => if P i then v i else a) a = a := by
    intro l
    induction l with
    | nil => exact fun a _ => rfl
    | cons i l ih =>
      intro a h
      rw [List.foldl_cons, if_neg (h i (by simp))]
      exact ih a fun j hj => h j (by simp [hj])
  intro l
  induction l with
  | nil => exact fun a h => absurd h (by simp)
  | cons i l ih =>
    intro a hm hp
    rw [List.pairwise_cons] at hp
    rw [List.foldl_cons]
    by_cases e : n ∈ l
    · exact ih _ e hp.2
    · have ei : n = i := by simpa [e] using hm
      subst ei
      rw [if_pos hn]
      exact miss l _ fun j hj => hp.1 j hj rfl

/-- A scatter's place keeps the last update that lands there. -/
theorem scatter_last (d : ScatterDims s si u) (x0 : s.Idx → α) (idx : IVec si 32) (upd : u.Idx → α) (ι : s.Idx) (k : u.Idx)
    (hk : d.resultIdx? k idx = some ι) (hl : ∀ k', u.rowMajor k < u.rowMajor k' → d.resultIdx? k' idx ≠ some ι) :
    Host.scatter d (fun _ b => b) x0 idx upd ι = upd k := by
  rw [Routing.scatter_at]
  refine (foldl_last (fun n => d.resultIdx? (u.rowMajor.symm n) idx = some ι) (fun n => upd (u.rowMajor.symm n)) (u.rowMajor k) ?_ _ _
    (List.mem_finRange _) ?_).trans ?_
  · rw [Equiv.symm_apply_apply]; exact hk
  · refine (List.pairwise_lt_finRange _).imp fun {i j} hij e => ?_
    subst e
    exact hl _ (by rw [Equiv.apply_symm_apply]; exact hij)
  · rw [Equiv.symm_apply_apply]

/-! ## Words of whole numbers -/

theorem toInt_ofInt {k : ℤ} (h0 : -(2 ^ 31) ≤ k) (h1 : k < 2 ^ 31) : (BitVec.ofInt 32 k).toInt = k := by
  rw [BitVec.toInt_ofInt, Int.bmod_def]
  norm_num at *
  split_ifs <;> omega

theorem toInt_fptosi_coe (r : ℝ) : (Ideal.fptosi 32 (r : EReal)).toInt = max (-(2 ^ 31)) (min (2 ^ 31 - 1) (if 0 ≤ r then ⌊r⌋ else ⌈r⌉)) := by
  show (BitVec.ofInt 32 (max (-(2 ^ 31 : ℕ)) (min ((2 ^ 31 : ℕ) - 1) (if 0 ≤ r then ⌊r⌋ else ⌈r⌉)))).toInt = _
  rw [toInt_ofInt (by push_cast; exact le_max_left _ _) (by push_cast; norm_num)]
  push_cast
  rfl

/-- A whole number that fits is read back from its word. -/
theorem fptosi_back (y : EReal) (h0 : 0 ≤ (Ideal.fptosi 32 (Ideal.liftRound Int.floor y)).toInt)
    (h1 : (Ideal.fptosi 32 (Ideal.liftRound Int.floor y)).toInt < 1000) :
    (((Ideal.fptosi 32 (Ideal.liftRound Int.floor y)).toInt : ℝ) : EReal) = Ideal.liftRound Int.floor y := by
  induction y using EReal.rec with
  | bot => exact absurd h0 (by decide)
  | top => exact absurd h1 (by decide)
  | coe r =>
    have e : Ideal.liftRound Int.floor (r : EReal) = (((⌊r⌋ : ℤ) : ℝ) : EReal) := rfl
    rw [e] at h0 h1 ⊢
    rw [toInt_fptosi_coe] at h0 h1 ⊢
    have e2 : (if (0 : ℝ) ≤ ((⌊r⌋ : ℤ) : ℝ) then ⌊((⌊r⌋ : ℤ) : ℝ)⌋ else ⌈((⌊r⌋ : ℤ) : ℝ)⌉) = ⌊r⌋ := by simp
    rw [e2] at h0 h1 ⊢
    congr 2
    generalize ⌊r⌋ = k at *
    omega

end Cert.Spec

end
-- ==== Proof.RefBox.lean ====
/- What the reference reads off each box: the same words and values as the kernel. -/
module

public import proofs.«01_k».proof.Proof.Cells
public import proofs.«01_k».proof.Proof.Places
public import proofs.«01_k».proof.Proof.Gen.ReferenceIdeal.Read

@[expose] public section

set_option maxRecDepth 16384

noncomputable section

namespace Cert.ReferenceIdeal.Loss

open Cert.ReferenceIdeal Cert.ReferenceIdeal.Gen Cert.ReferenceIdeal.Read Idealize.ShloMosaic Idealize.ShloMosaic.TcCoe Idealize.SL.Sem
open Cert.KernelIdeal.Loss (kb chan)
open Cert.Spec (and_one or_one flip_one eq_one ofProp_one select_if)
open scoped Classical

/-- Box `n` of batch `b` in the flat list of all boxes. -/
abbrev fl (b : Fin 8) (n : Fin 64) : Fin 512 := ⟨64 * b.val + n.val, by omega⟩

/-- Every place of the flat list is some batch's box. -/
theorem fl_surj (p : Fin 512) : ∃ b n, p = fl b n :=
  ⟨⟨p.val / 64, by omega⟩, ⟨p.val % 64, by omega⟩, Fin.ext (by show p.val = 64 * (p.val / 64) + p.val % 64; omega)⟩

variable (x3 : (⟨S8x64x8, .f32⟩ : BufTy).Contents (Elt Ideal))

/-- The flat list of boxes read at a box and a column. -/
theorem v1_at (i : S512x8.Idx) (b : Fin 8) (n : Fin 64) (k : Fin 8) (h0 : (i 0).val = 64 * b.val + n.val) (h1 : (i 1).val = k.val) :
    val_main_v1 (F := Ideal) x3 i = x3 (ix3 b n k) := by
  rw [val_main_v1_apply]
  congr 1
  funext a
  match a with
  | ⟨0, _⟩ => exact Fin.ext (by show ((i 0).val * 8 + (i 1).val) / 512 = b.val; rw [h0, h1]; omega)
  | ⟨1, _⟩ => exact Fin.ext (by show ((i 0).val * 8 + (i 1).val) / 8 % 64 = n.val; rw [h0, h1]; omega)
  | ⟨2, _⟩ => exact Fin.ext (by show ((i 0).val * 8 + (i 1).val) % 8 = k.val; rw [h0, h1]; omega)

section
variable (b : Fin 8) (n : Fin 64)

theorem x_at : val_main_v3 (F := Ideal) x3 (ix1 (fl b n)) = x3 (ix3 b n 0) := by
  rw [val_main_v3_apply, val_main_v2_apply]
  exact v1_at x3 _ b n 0 (Nat.div_one _) rfl
theorem y_at : val_main_v5 (F := Ideal) x3 (ix1 (fl b n)) = x3 (ix3 b n 1) := by
  rw [val_main_v5_apply, val_main_v4_apply]
  exact v1_at x3 _ b n 1 (Nat.div_one _) rfl
theorem z_at : val_main_v7 (F := Ideal) x3 (ix1 (fl b n)) = x3 (ix3 b n 2) := by
  rw [val_main_v7_apply, val_main_v6_apply]
  exact v1_at x3 _ b n 2 (Nat.div_one _) rfl
theorem l_at : val_main_v9 (F := Ideal) x3 (ix1 (fl b n)) = x3 (ix3 b n 3) := by
  rw [val_main_v9_apply, val_main_v8_apply]
  exact v1_at x3 _ b n 3 (Nat.div_one _) rfl
theorem w_at : val_main_v11 (F := Ideal) x3 (ix1 (fl b n)) = x3 (ix3 b n 4) := by
  rw [val_main_v11_apply, val_main_v10_apply]
  exact v1_at x3 _ b n 4 (Nat.div_one _) rfl
theorem h_at : val_main_v13 (F := Ideal) x3 (ix1 (fl b n)) = x3 (ix3 b n 5) := by
  rw [val_main_v13_apply, val_main_v12_apply]
  exact v1_at x3 _ b n 5 (Nat.div_one _) rfl
theorem rot_at : val_main_v15 (F := Ideal) x3 (ix1 (fl b n)) = x3 (ix3 b n 6) := by
  rw [val_main_v15_apply, val_main_v14_apply]
  exact v1_at x3 _ b n 6 (Nat.div_one _) rfl
theorem cid_at : val_main_v17 (F := Ideal) x3 (ix1 (fl b n)) = x3 (ix3 b n 7) := by
  rw [val_main_v17_apply, val_main_v16_apply]
  exact v1_at x3 _ b n 7 (Nat.div_one _) rfl

/-- The batch of a box. -/
theorem batch_at : val_main_v20 (F := Ideal) (ix1 (fl b n)) = BitVec.ofNat 32 b.val := by
  rw [val_main_v20_apply, val_main_v19_apply, val_main_v18_apply]
  exact congrArg (BitVec.ofNat 32) (show (64 * b.val + n.val) / 64 = b.val by omega)

end

/-- Two fifths. -/
theorem two_fifths : Ideal.div (Ideal.ofBits .f32 0x40000000#32) (Ideal.ofBits .f32 0x40A00000#32) = ((2 / 5 : ℝ) : EReal) := by
  rw [Spec.bits_two, Spec.bits_five]
  unfold Ideal.div
  rw [if_neg (by norm_num), ← EReal.coe_inv, ← EReal.coe_mul]
  norm_num

/-- An index of the flat list, by its coordinate. -/
theorem to_ix1 (i : S512.Idx) (p : Fin 512) (h : (i 0).val = p.val) : i = ix1 p := by
  funext a
  match a with
  | ⟨0, _⟩ => exact Fin.ext h

/-- Dividing by the cell's edge is multiplying by two and a half. -/
theorem div_cell (a : EReal) : Ideal.div a (Ideal.div (Ideal.ofBits .f32 0x40000000#32) (Ideal.ofBits .f32 0x40A00000#32)) =
    a * Ideal.ofBits .f32 0x40200000#32 := by
  rw [two_fifths, Spec.bits_five_halves]
  unfold Ideal.div
  rw [if_neg (by exact_mod_cast (by norm_num : (2 / 5 : ℝ) ≠ 0)), ← EReal.coe_inv]
  norm_num

variable {x3} {g : Vec Ideal Cert.KernelIdeal.S8x8x64 .f32} (hx : ∀ (k : Fin 8) (b : Fin 8) (n : Fin 64), chan g k (ix2 b n) = x3 (ix3 b n k))
variable (b : Fin 8) (n : Fin 64)

include hx

/-- The column of a box before rounding. -/
theorem colf_eq : val_main_v24 (F := Ideal) x3 (ix1 (fl b n)) = (chan g 0 (ix2 b n) - Ideal.ofBits .f32 0x00000000#32) * Ideal.ofBits .f32 0x40200000#32 := by
  rw [hx, val_main_v24_apply, val_main_v22_apply, x_at, val_main_v23_apply, val_main_v21_apply]
  exact div_cell _

/-- The row of a box before rounding. -/
theorem rowf_eq : val_main_v30 (F := Ideal) x3 (ix1 (fl b n)) = (chan g 1 (ix2 b n) - Ideal.ofBits .f32 0xC2480000#32) * Ideal.ofBits .f32 0x40200000#32 := by
  rw [hx, val_main_v30_apply, val_main_v28_apply, y_at, val_main_v29_apply, val_main_v27_apply]
  exact div_cell _

theorem gxf_eq : val_main_v25 (F := Ideal) x3 (ix1 (fl b n)) = Cert.KernelIdeal.Loss.gxf g (ix2 b n) := by
  rw [val_main_v25_apply, colf_eq hx]; rfl

theorem gyf_eq : val_main_v31 (F := Ideal) x3 (ix1 (fl b n)) = Cert.KernelIdeal.Loss.gyf g (ix2 b n) := by
  rw [val_main_v31_apply, rowf_eq hx]; rfl

theorem gx_eq : val_main_v26 (F := Ideal) x3 (ix1 (fl b n)) = (kb g).gx b n := by
  rw [val_main_v26_apply, gxf_eq hx]; rfl

theorem gy_eq : val_main_v32 (F := Ideal) x3 (ix1 (fl b n)) = (kb g).gy b n := by
  rw [val_main_v32_apply, gyf_eq hx]; rfl

theorem cid_eq : val_main_v58 (F := Ideal) x3 (ix1 (fl b n)) = (kb g).cid b n := by
  rw [val_main_v58_apply, cid_at, ← hx]; rfl

theorem db_eq : val_main_v163 (F := Ideal) x3 (ix1 (fl b n)) = (kb g).db b n := by
  rw [val_main_v163_apply, val_main_v161_apply, rot_at, ← hx, val_main_v162_apply]; rfl

theorem va_eq : val_main_v55 (F := Ideal) x3 (ix1 (fl b n)) = (kb g).va b n := by
  simp only [val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_v43_apply, val_main_v42_apply, val_main_v41_apply, val_main_v40_apply, val_main_v39_apply, val_main_v38_apply,
    val_main_v37_apply, val_main_v36_apply, val_main_v35_apply, val_main_v34_apply, val_main_v33_apply, x_at, y_at, gx_eq hx, gy_eq hx, ← hx]
  rfl

/-- The row and column where an update of the box lands: the box's own on the grid, far outside otherwise. -/
theorem row_at : val_main_v56 (F := Ideal) x3 (ix1 (fl b n)) = Scalar.select ((kb g).va b n) ((kb g).gy b n) 1000000#32 := by
  rw [val_main_v56_apply, va_eq hx, gy_eq hx]; rfl

theorem col_at : val_main_v57 (F := Ideal) x3 (ix1 (fl b n)) = Scalar.select ((kb g).va b n) ((kb g).gx b n) 1000000#32 := by
  rw [val_main_v57_apply, va_eq hx, gx_eq hx]; rfl

theorem dir_at : val_main_v165 (F := Ideal) x3 (ix1 (fl b n)) = Scalar.select ((kb g).db b n) 0#32 1#32 := by
  rw [val_main_v165_apply, val_main_v164_apply, db_eq hx]; rfl

/-- The regression values of a box on the grid. -/
theorem rv_eq (hT : (kb g).Good) (hv : (kb g).va b n = 1#1) (i : Fin 7) : val_main_v124 (F := Ideal) x3 (ix2 (fl b n) i) = (kb g).rv i b n := by
  have ec : ∀ y : EReal, FloatOps.hostDivf (F := Ideal) (φ := .f32) y (val_main_v0 (F := Ideal) (fun a => a.elim0)) = y * Ideal.ofBits .f32 0x40200000#32 := div_cell
  have en : val_main_v0 (F := Ideal) (fun a => a.elim0) = (Named.named Cert.KernelIdeal.κ "cell" 0x3ECCCCCD#32 : Ideal .f32) := two_fifths
  have sx : FloatOps.sitofp (F := Ideal) .f32 ((kb g).gx b n) = Cert.KernelIdeal.Loss.gxf g (ix2 b n) :=
    Spec.fptosi_back _ (hT.col b n hv).1 (lt_trans (hT.col b n hv).2 (by norm_num))
  have sy : FloatOps.sitofp (F := Ideal) .f32 ((kb g).gy b n) = Cert.KernelIdeal.Loss.gyf g (ix2 b n) :=
    Spec.fptosi_back _ (hT.row b n hv).1 (lt_trans (hT.row b n hv).2 (by norm_num))
  fin_cases i
  · have e : val_main_v124 (F := Ideal) x3 (ix2 (fl b n) 0) = val_main_v103 (F := Ideal) x3 (ix1 (fl b n)) := by
      pointwise [val_main_v124]
      rw [val_main_v117_apply]
      exact congrArg _ (to_ix1 _ _ rfl)
    refine e.trans ?_
    simp only [val_main_v103_apply, val_main_v102_apply, val_main_v101_apply, val_main_v93_apply, val_main_v92_apply, val_main_v91_apply,
      val_main_v90_apply, val_main_v89_apply, val_main_v88_apply, val_main_v87_apply, gx_eq hx, sx, x_at, ← hx]
    rw [ec, en]
    rfl
  · have e : val_main_v124 (F := Ideal) x3 (ix2 (fl b n) 1) = val_main_v106 (F := Ideal) x3 (ix1 (fl b n)) := by
      pointwise [val_main_v124]
      rw [val_main_v118_apply]
      exact congrArg _ (to_ix1 _ _ rfl)
    refine e.trans ?_
    simp only [val_main_v106_apply, val_main_v105_apply, val_main_v104_apply, val_main_v100_apply, val_main_v99_apply, val_main_v98_apply,
      val_main_v97_apply, val_main_v96_apply, val_main_v95_apply, val_main_v94_apply, gy_eq hx, sy, y_at, ← hx]
    rw [ec, en]
    rfl
  · have e : val_main_v124 (F := Ideal) x3 (ix2 (fl b n) 2) = val_main_v7 (F := Ideal) x3 (ix1 (fl b n)) := by
      pointwise [val_main_v124]
      rw [val_main_v119_apply]
      exact congrArg _ (to_ix1 _ _ rfl)
    rw [z_at, ← hx] at e
    exact e
  · have e : val_main_v124 (F := Ideal) x3 (ix2 (fl b n) 3) = val_main_v109 (F := Ideal) x3 (ix1 (fl b n)) := by
      pointwise [val_main_v124]
      rw [val_main_v120_apply]
      exact congrArg _ (to_ix1 _ _ rfl)
    rw [val_main_v109_apply, val_main_v108_apply, val_main_v107_apply, l_at, ← hx] at e
    exact e
  · have e : val_main_v124 (F := Ideal) x3 (ix2 (fl b n) 4) = val_main_v112 (F := Ideal) x3 (ix1 (fl b n)) := by
      pointwise [val_main_v124]
      rw [val_main_v121_apply]
      exact congrArg _ (to_ix1 _ _ rfl)
    rw [val_main_v112_apply, val_main_v111_apply, val_main_v110_apply, w_at, ← hx] at e
    exact e
  · have e : val_main_v124 (F := Ideal) x3 (ix2 (fl b n) 5) = val_main_v115 (F := Ideal) x3 (ix1 (fl b n)) := by
      pointwise [val_main_v124]
      rw [val_main_v122_apply]
      exact congrArg _ (to_ix1 _ _ rfl)
    rw [val_main_v115_apply, val_main_v114_apply, val_main_v113_apply, h_at, ← hx] at e
    exact e
  · have e : val_main_v124 (F := Ideal) x3 (ix2 (fl b n) 6) = val_main_v116 (F := Ideal) x3 (ix1 (fl b n)) := by
      pointwise [val_main_v124]
      rw [val_main_v123_apply]
      exact congrArg _ (to_ix1 _ _ rfl)
    rw [val_main_v116_apply, rot_at, ← hx] at e
    exact e

end Cert.ReferenceIdeal.Loss

end
-- ==== Proof.RefCols.lean ====
/- The reference's index arrays. Each is a few columns side by side, and each column a word of the box, counted from the
   end when negative: so the arrays are named by their words, and each form of column is read once. -/
module

public import proofs.«01_k».proof.Proof.RefBox

@[expose] public section

set_option maxRecDepth 16384

noncomputable section

namespace Cert.ReferenceIdeal.Loss

open Cert.ReferenceIdeal Cert.ReferenceIdeal.Gen Cert.ReferenceIdeal.Read Idealize.ShloMosaic Idealize.ShloMosaic.TcCoe Idealize.SL.Sem
open Cert.Spec (wrapw)
open scoped Classical

/-! ## The forms of a column -/

/-- An array of words, each counted from the end of `k` places when negative. -/
def wraps {s : Shape} (h : S_.BroadcastsInDim s ![]) (k : BitVec 32) (w : IVec s 32) : IVec s 32 :=
  select (cmpi .slt w (broadcastInDim s ![] h (constantI S_ 32 0#32))) (addi w (broadcastInDim s ![] h (constantI S_ 32 k))) w

theorem wraps_apply {s : Shape} (h : S_.BroadcastsInDim s ![]) (k : BitVec 32) (w : IVec s 32) (i : s.Idx) :
    wraps h k w i = wrapw k (w i) := rfl

/-- One word a box, as a column. -/
def col (w : IVec S512 32) : IVec S512x1 32 := broadcastInDim S512x1 ![0] bcast_S512_S512x1_0 w

theorem col_apply (w : IVec S512 32) (i : S512x1.Idx) (p : Fin 512) (h : (i 0).val = p.val) : col w i = w (ix1 p) :=
  congrArg w (to_ix1 _ _ h)

/-- The column of a box's words, wrapped. -/
abbrev bcol (k : BitVec 32) (w : IVec S512 32) : IVec S512x1 32 := col (wraps bcast_S_S512 k w)

/-- The same column, of words wrapped after they were stood up. -/
abbrev scol (k : BitVec 32) (w : IVec S512 32) : IVec S512x1 32 := wraps bcast_S_S512x1 k (col w)

/-! ## Arrays of three and of four columns, a row for each box -/

/-- Three columns side by side. -/
def cat3 (a b c : IVec S512x1 32) : IVec S512x3 32 :=
  concatenate S512x3 1 [⟨S512x1, a⟩, ⟨S512x1, b⟩, ⟨S512x1, c⟩] concatenates_S512x1_S512x1_S512x1_S512x3_d1

/-- A row of three columns holds the wrapped words of its box. -/
theorem cat3_row (k0 k1 k2 : BitVec 32) (w0 w1 w2 : IVec S512 32) (p : Fin 512) :
    cat3 (bcol k0 w0) (bcol k1 w1) (bcol k2 w2) (ix2 p 0) = wrapw k0 (w0 (ix1 p)) ∧
    cat3 (bcol k0 w0) (bcol k1 w1) (bcol k2 w2) (ix2 p 1) = wrapw k1 (w1 (ix1 p)) ∧
    cat3 (bcol k0 w0) (bcol k1 w1) (bcol k2 w2) (ix2 p 2) = wrapw k2 (w2 (ix1 p)) := by
  have e : ∀ x y z : IVec S512x1 32, cat3 x y z (ix2 p 0) = x (ix2 p 0) ∧ cat3 x y z (ix2 p 1) = y (ix2 p 0) ∧
      cat3 x y z (ix2 p 2) = z (ix2 p 0) := by
    intro x y z
    refine ⟨?_, ?_, ?_⟩ <;> pointwise [cat3]
  obtain ⟨e0, e1, e2⟩ := e (bcol k0 w0) (bcol k1 w1) (bcol k2 w2)
  exact ⟨e0.trans (col_apply _ _ p rfl), e1.trans (col_apply _ _ p rfl), e2.trans (col_apply _ _ p rfl)⟩

/-- Four columns side by side. -/
def cat4 (a b c d : IVec S512x1 32) : IVec S512x4 32 :=
  concatenate S512x4 1 [⟨S512x1, a⟩, ⟨S512x1, b⟩, ⟨S512x1, c⟩, ⟨S512x1, d⟩] concatenates_S512x1_S512x1_S512x1_S512x1_S512x4_d1

/-- A row of four columns holds the wrapped words of its box. -/
theorem cat4_row (k0 k1 k2 k3 : BitVec 32) (w0 w1 w2 w3 : IVec S512 32) (p : Fin 512) :
    cat4 (bcol k0 w0) (bcol k1 w1) (bcol k2 w2) (bcol k3 w3) (ix2 p 0) = wrapw k0 (w0 (ix1 p)) ∧
    cat4 (bcol k0 w0) (bcol k1 w1) (bcol k2 w2) (bcol k3 w3) (ix2 p 1) = wrapw k1 (w1 (ix1 p)) ∧
    cat4 (bcol k0 w0) (bcol k1 w1) (bcol k2 w2) (bcol k3 w3) (ix2 p 2) = wrapw k2 (w2 (ix1 p)) ∧
    cat4 (bcol k0 w0) (bcol k1 w1) (bcol k2 w2) (bcol k3 w3) (ix2 p 3) = wrapw k3 (w3 (ix1 p)) := by
  have e : ∀ x y z t : IVec S512x1 32, cat4 x y z t (ix2 p 0) = x (ix2 p 0) ∧ cat4 x y z t (ix2 p 1) = y (ix2 p 0) ∧
      cat4 x y z t (ix2 p 2) = z (ix2 p 0) ∧ cat4 x y z t (ix2 p 3) = t (ix2 p 0) := by
    intro x y z t
    refine ⟨?_, ?_, ?_, ?_⟩ <;> pointwise [cat4]
  obtain ⟨e0, e1, e2, e3⟩ := e (bcol k0 w0) (bcol k1 w1) (bcol k2 w2) (bcol k3 w3)
  exact ⟨e0.trans (col_apply _ _ p rfl), e1.trans (col_apply _ _ p rfl), e2.trans (col_apply _ _ p rfl), e3.trans (col_apply _ _ p rfl)⟩

/-! ## Arrays of seven and of nine rows for each box -/

/-- A box's column repeated over its seven rows. -/
def over7 (w : IVec S512x1 32) : IVec S512x7 32 := broadcastInDim S512x7 ![0, 1] bcast_S512x1_S512x7_0_1 w
/-- The number of the row, repeated over the boxes. -/
def nums7 (w : IVec S7 32) : IVec S512x7 32 :=
  broadcastInDim S512x7 ![0, 1] bcast_S1x7_S512x7_0_1 (wraps bcast_S_S1x7 7#32 (broadcastInDim S1x7 ![1] bcast_S7_S1x7_1 w))
/-- A table of words, stood up as a column. -/
def up7 (w : IVec S512x7 32) : IVec S512x7x1 32 := broadcastInDim S512x7x1 ![0, 1] bcast_S512x7_S512x7x1_0_1 w
/-- A box's column repeated over its nine rows. -/
def over9 (w : IVec S512x1 32) : IVec S512x9 32 := broadcastInDim S512x9 ![0, 1] bcast_S512x1_S512x9_0_1 w
/-- A table of words, stood up as a column. -/
def up9 (w : IVec S512x9 32) : IVec S512x9x1 32 := broadcastInDim S512x9x1 ![0, 1] bcast_S512x9_S512x9x1_0_1 w

theorem up7_apply (w : IVec S512x7 32) (p : Fin 512) (q : Fin 7) : up7 w (ix3 p q 0) = w (ix2 p q) :=
  congrArg w (funext fun a => by match a with | ⟨0, _⟩ => rfl | ⟨1, _⟩ => rfl)
theorem up9_apply (w : IVec S512x9 32) (p : Fin 512) (q : Fin 9) : up9 w (ix3 p q 0) = w (ix2 p q) :=
  congrArg w (funext fun a => by match a with | ⟨0, _⟩ => rfl | ⟨1, _⟩ => rfl)
theorem over7_apply (k : BitVec 32) (w : IVec S512 32) (p : Fin 512) (q : Fin 7) : over7 (scol k w) (ix2 p q) = wrapw k (w (ix1 p)) :=
  congrArg (fun x => wrapw k x) (col_apply w _ p rfl)
theorem over9_apply (k : BitVec 32) (w : IVec S512 32) (p : Fin 512) (q : Fin 9) : over9 (scol k w) (ix2 p q) = wrapw k (w (ix1 p)) :=
  congrArg (fun x => wrapw k x) (col_apply w _ p rfl)
theorem nums7_apply (w : IVec S7 32) (p : Fin 512) (q : Fin 7) : nums7 w (ix2 p q) = wrapw 7#32 (w (ix1 q)) :=
  congrArg (fun j => wrapw 7#32 (w j)) (funext fun a => by match a with | ⟨0, _⟩ => rfl)

/-- Four columns of seven rows a box, side by side. -/
def quad7 (a b c d : IVec S512x7 32) : IVec S512x7x4 32 :=
  concatenate S512x7x4 2 [⟨S512x7x1, up7 a⟩, ⟨S512x7x1, up7 b⟩, ⟨S512x7x1, up7 c⟩, ⟨S512x7x1, up7 d⟩]
    concatenates_S512x7x1_S512x7x1_S512x7x1_S512x7x1_S512x7x4_d2

/-- A row of them holds the four words. -/
theorem quad7_row (x y z t : IVec S512x7 32) (p : Fin 512) (q : Fin 7) :
    quad7 x y z t (ix3 p q 0) = x (ix2 p q) ∧ quad7 x y z t (ix3 p q 1) = y (ix2 p q) ∧
      quad7 x y z t (ix3 p q 2) = z (ix2 p q) ∧ quad7 x y z t (ix3 p q 3) = t (ix2 p q) := by
  rw [← up7_apply x, ← up7_apply y, ← up7_apply z, ← up7_apply t]
  refine ⟨?_, ?_, ?_, ?_⟩ <;> pointwise [quad7]

/-- Four columns of nine rows a box, side by side. -/
def quad9 (a b c d : IVec S512x9 32) : IVec S512x9x4 32 :=
  concatenate S512x9x4 2 [⟨S512x9x1, up9 a⟩, ⟨S512x9x1, up9 b⟩, ⟨S512x9x1, up9 c⟩, ⟨S512x9x1, up9 d⟩]
    concatenates_S512x9x1_S512x9x1_S512x9x1_S512x9x1_S512x9x4_d2

/-- A row of them holds the four words. -/
theorem quad9_row (x y z t : IVec S512x9 32) (p : Fin 512) (q : Fin 9) :
    quad9 x y z t (ix3 p q 0) = x (ix2 p q) ∧ quad9 x y z t (ix3 p q 1) = y (ix2 p q) ∧
      quad9 x y z t (ix3 p q 2) = z (ix2 p q) ∧ quad9 x y z t (ix3 p q 3) = t (ix2 p q) := by
  rw [← up9_apply x, ← up9_apply y, ← up9_apply z, ← up9_apply t]
  refine ⟨?_, ?_, ?_, ?_⟩ <;> pointwise [quad9]

/-! ## The reference's six arrays -/

variable (x3 : (⟨S8x64x8, .f32⟩ : BufTy).Contents (Elt Ideal))

/-- The batches of the boxes. -/
abbrev wB : IVec S512 32 := val_main_v20 (F := Ideal)
/-- Their classes. -/
abbrev wC : IVec S512 32 := val_main_v58 (F := Ideal) x3
/-- Their direction bins. -/
abbrev wD : IVec S512 32 := val_main_v165 (F := Ideal) x3
/-- Their rows, far outside for a box off the grid. -/
abbrev wR : IVec S512 32 := val_main_v56 (F := Ideal) x3
/-- Their columns, likewise. -/
abbrev wQ : IVec S512 32 := val_main_v57 (F := Ideal) x3

/-- Of the hits: batch, class, row, column. -/
theorem idx_hit : val_main_v84 (F := Ideal) x3 = cat4 (bcol 8#32 wB) (bcol 3#32 (wC x3)) (bcol 250#32 (wR x3)) (bcol 500#32 (wQ x3)) := rfl
/-- Of the cells that count again: the same. -/
theorem idx_again : val_main_v295 (F := Ideal) x3 = cat4 (bcol 8#32 wB) (bcol 3#32 (wC x3)) (bcol 250#32 (wR x3)) (bcol 500#32 (wQ x3)) := rfl
/-- Of the directions: batch, bin, row, column. -/
theorem idx_dir : val_main_v191 (F := Ideal) x3 = cat4 (bcol 8#32 wB) (bcol 2#32 (wD x3)) (bcol 250#32 (wR x3)) (bcol 500#32 (wQ x3)) := rfl
/-- Of the positive cells: batch, row, column. -/
theorem idx_pos : val_main_v213 (F := Ideal) x3 = cat3 (bcol 8#32 wB) (bcol 250#32 (wR x3)) (bcol 500#32 (wQ x3)) := rfl
/-- Of the regression values: batch, number of the value, row, column. -/
theorem idx_reg : val_main_v159 (F := Ideal) x3 = quad7 (over7 (scol 8#32 wB)) (nums7 (val_main_v125 (F := Ideal)))
    (over7 (scol 250#32 (wR x3))) (over7 (scol 500#32 (wQ x3))) := rfl
/-- Of the neighbours: batch, class, and the row and the column of the neighbour. -/
theorem idx_near : val_main_v268 (F := Ideal) x3 = quad9 (over9 (scol 8#32 wB)) (over9 (scol 3#32 (wC x3)))
    (wraps bcast_S_S512x9 250#32 (val_main_v230 (F := Ideal) x3)) (wraps bcast_S_S512x9 500#32 (val_main_v238 (F := Ideal) x3)) := rfl

end Cert.ReferenceIdeal.Loss

end
-- ==== Proof.RefTgt.lean ====
/- Where the reference's scatters land, and what each place of its target arrays holds. -/
module

public import proofs.«01_k».proof.Proof.RefCols
public import Idealize.ShloMosaic.Lib.Routing.OpsSet

@[expose] public section

set_option maxRecDepth 16384

noncomputable section

namespace Cert.ReferenceIdeal.Loss

open Cert.ReferenceIdeal Cert.ReferenceIdeal.Gen Cert.ReferenceIdeal.Read Idealize.ShloMosaic Idealize.ShloMosaic.TcCoe Idealize.SL.Sem
open Cert.KernelIdeal.Loss (kb chan)
open Cert.Spec
open scoped Classical

/-! ## The neighbours' cells -/

/-- The row step of offset `o`. -/
theorem step_row (o : Fin 9) : (val_main_v221 (F := Ideal) (ix1 o)).toInt = ((o.val / 3 : ℕ) : ℤ) - 1 := by
  simp only [val_main_v221_apply, val_main_v219_apply, val_main_v218_apply, val_main_v217_apply, val_main_c_59_apply, val_main_v216_apply]
  fin_cases o <;> rfl

/-- The column step of offset `o`. -/
theorem step_col (o : Fin 9) : (val_main_v222 (F := Ideal) (ix1 o)).toInt = ((o.val % 3 : ℕ) : ℤ) - 1 := by
  simp only [val_main_v222_apply, val_main_v220_apply, val_main_v218_apply, val_main_v217_apply, val_main_c_59_apply, val_main_v216_apply]
  fin_cases o <;> rfl

variable {x3 : (⟨S8x64x8, .f32⟩ : BufTy).Contents (Elt Ideal)} {g : Vec Ideal Cert.KernelIdeal.S8x8x64 .f32}

section Near

variable (hx : ∀ (k : Fin 8) (b : Fin 8) (n : Fin 64), chan g k (ix2 b n) = x3 (ix3 b n k)) (b : Fin 8) (n : Fin 64) (o : Fin 9)

include hx

/-- The row of a box's neighbour, kept on the grid; far outside for a box off the grid. -/
theorem near_row : val_main_v230 (F := Ideal) x3 (ix2 (fl b n) o) = Scalar.select ((kb g).va b n)
    (IntOp.minsi (BitVec.ofNat 32 249) (IntOp.maxsi 0#32 (IntOp.addi ((kb g).gy b n) (val_main_v221 (F := Ideal) (ix1 o))))) 1000000#32 := by
  simp only [val_main_v230_apply, val_main_call4_v1_apply, val_main_v223_apply, val_main_v229_apply, val_main_call3_v4_apply, val_main_call3_v3_apply,
    val_main_c_61_apply, val_main_call3_v2_apply, val_main_call3_v1_apply, val_main_call3_v0_apply, val_main_c_60_apply, val_main_v228_apply,
    val_main_v226_apply, val_main_v224_apply, val_main_v227_apply, val_main_v225_apply, val_main_call4_v2_apply, val_main_call4_v0_apply,
    val_main_c_62_apply]
  rw [← va_eq hx, ← gy_eq hx]
  have key : ∀ j1 j2 j3, j1 = ix1 (fl b n) → j2 = ix1 (fl b n) → j3 = ix1 o →
      Scalar.select (val_main_v55 (F := Ideal) x3 j1)
        (IntOp.minsi 249#32 (IntOp.maxsi 0#32 (IntOp.addi (val_main_v32 (F := Ideal) x3 j2) (val_main_v221 (F := Ideal) j3)))) 1000000#32 =
      Scalar.select (val_main_v55 (F := Ideal) x3 (ix1 (fl b n)))
        (IntOp.minsi 249#32 (IntOp.maxsi 0#32 (IntOp.addi (val_main_v32 (F := Ideal) x3 (ix1 (fl b n))) (val_main_v221 (F := Ideal) (ix1 o))))) 1000000#32 := by
    rintro _ _ _ rfl rfl rfl; rfl
  exact key _ _ _ (to_ix1 _ _ rfl) (to_ix1 _ _ rfl) (funext fun a => by match a with | ⟨0, _⟩ => rfl)

/-- The column of a box's neighbour, kept on the grid; far outside for a box off the grid. -/
theorem near_col : val_main_v238 (F := Ideal) x3 (ix2 (fl b n) o) = Scalar.select ((kb g).va b n)
    (IntOp.minsi (BitVec.ofNat 32 499) (IntOp.maxsi 0#32 (IntOp.addi ((kb g).gx b n) (val_main_v222 (F := Ideal) (ix1 o))))) 1000000#32 := by
  simp only [val_main_v238_apply, val_main_call6_v1_apply, val_main_v231_apply, val_main_v237_apply, val_main_call5_v4_apply, val_main_call5_v3_apply,
    val_main_c_64_apply, val_main_call5_v2_apply, val_main_call5_v1_apply, val_main_call5_v0_apply, val_main_c_63_apply, val_main_v236_apply,
    val_main_v234_apply, val_main_v232_apply, val_main_v235_apply, val_main_v233_apply, val_main_call6_v2_apply, val_main_call6_v0_apply,
    val_main_c_65_apply]
  rw [← va_eq hx, ← gx_eq hx]
  have key : ∀ j1 j2 j3, j1 = ix1 (fl b n) → j2 = ix1 (fl b n) → j3 = ix1 o →
      Scalar.select (val_main_v55 (F := Ideal) x3 j1)
        (IntOp.minsi 499#32 (IntOp.maxsi 0#32 (IntOp.addi (val_main_v26 (F := Ideal) x3 j2) (val_main_v222 (F := Ideal) j3)))) 1000000#32 =
      Scalar.select (val_main_v55 (F := Ideal) x3 (ix1 (fl b n)))
        (IntOp.minsi 499#32 (IntOp.maxsi 0#32 (IntOp.addi (val_main_v26 (F := Ideal) x3 (ix1 (fl b n))) (val_main_v222 (F := Ideal) (ix1 o))))) 1000000#32 := by
    rintro _ _ _ rfl rfl rfl; rfl
  exact key _ _ _ (to_ix1 _ _ rfl) (to_ix1 _ _ rfl) (funext fun a => by match a with | ⟨0, _⟩ => rfl)

end Near

/-! ## Landing -/

/-- Two lists of three places agree when they agree place by place. -/
theorem all3 (P : Fin 3 → Prop) : (∀ a, P a) ↔ P 0 ∧ P 1 ∧ P 2 :=
  ⟨fun h => ⟨h 0, h 1, h 2⟩, fun h a => by fin_cases a; exacts [h.1, h.2.1, h.2.2]⟩

/-- The same for four places. -/
theorem all4 (P : Fin 4 → Prop) : (∀ a, P a) ↔ P 0 ∧ P 1 ∧ P 2 ∧ P 3 :=
  ⟨fun h => ⟨h 0, h 1, h 2, h 3⟩, fun h a => by fin_cases a; exacts [h.1, h.2.1, h.2.2.1, h.2.2.2]⟩

/-- An update of single numbers lands where its index row says, place by place. -/
theorem lands_iff {s si u : Shape} (d : ScatterDims s si u) (k : u.Idx) (idx : IVec si 32) (ι : s.Idx) (f : Fin s.rank → ℤ)
    (hs : ∀ a, d.start k idx a = f a) (hw : ∀ a, d.window k a = 0) : d.resultIdx? k idx = some ι ↔ ∀ a, f a = ((ι a).val : ℤ) := by
  rw [Routing.resultIdx?_eq_some]
  simp only [hs, hw, Nat.cast_zero, add_zero]

/-- A box's update lands at the class, row and column its index row names. -/
theorem lands_cls (idx : IVec S512x4 32) (p : Fin 512) (b : Fin 8) (c : Fin 3) (R : Fin 250) (Q : Fin 500) :
    scatter_S8x3x250x500_S512x4_S512_n_0123_0123_1.resultIdx? (ix1 p) idx = some (ix4 b c R Q) ↔
      (idx (ix2 p 0)).toInt = b.val ∧ (idx (ix2 p 1)).toInt = c.val ∧ (idx (ix2 p 2)).toInt = R.val ∧ (idx (ix2 p 3)).toInt = Q.val :=
  (lands_iff _ _ _ _ (fun a => (idx (ix2 p a)).toInt)
    (fun a => by fin_cases a <;> exact congrArg (fun j => (idx j).toInt) (funext fun b => by fin_cases b <;> rfl))
    (fun a => by fin_cases a <;> rfl)).trans (all4 _)

/-- The same of the direction target. -/
theorem lands_dir (idx : IVec S512x4 32) (p : Fin 512) (b : Fin 8) (c : Fin 2) (R : Fin 250) (Q : Fin 500) :
    scatter_S8x2x250x500_S512x4_S512_n_0123_0123_1.resultIdx? (ix1 p) idx = some (ix4 b c R Q) ↔
      (idx (ix2 p 0)).toInt = b.val ∧ (idx (ix2 p 1)).toInt = c.val ∧ (idx (ix2 p 2)).toInt = R.val ∧ (idx (ix2 p 3)).toInt = Q.val :=
  (lands_iff _ _ _ _ (fun a => (idx (ix2 p a)).toInt)
    (fun a => by fin_cases a <;> exact congrArg (fun j => (idx j).toInt) (funext fun b => by fin_cases b <;> rfl))
    (fun a => by fin_cases a <;> rfl)).trans (all4 _)

/-- The same of the positive cells. -/
theorem lands_pos (idx : IVec S512x3 32) (p : Fin 512) (b : Fin 8) (R : Fin 250) (Q : Fin 500) :
    scatter_S8x250x500_S512x3_S512_n_012_012_1.resultIdx? (ix1 p) idx = some (ix3 b R Q) ↔
      (idx (ix2 p 0)).toInt = b.val ∧ (idx (ix2 p 1)).toInt = R.val ∧ (idx (ix2 p 2)).toInt = Q.val :=
  (lands_iff _ _ _ _ (fun a => (idx (ix2 p a)).toInt)
    (fun a => by fin_cases a <;> exact congrArg (fun j => (idx j).toInt) (funext fun b => by fin_cases b <;> rfl))
    (fun a => by fin_cases a <;> rfl)).trans (all3 _)

/-- The same of a regression value. -/
theorem lands_reg (idx : IVec S512x7x4 32) (p : Fin 512) (q : Fin 7) (b : Fin 8) (c : Fin 7) (R : Fin 250) (Q : Fin 500) :
    scatter_S8x7x250x500_S512x7x4_S512x7_n_0123_0123_2.resultIdx? (ix2 p q) idx = some (ix4 b c R Q) ↔
      (idx (ix3 p q 0)).toInt = b.val ∧ (idx (ix3 p q 1)).toInt = c.val ∧ (idx (ix3 p q 2)).toInt = R.val ∧ (idx (ix3 p q 3)).toInt = Q.val :=
  (lands_iff _ _ _ _ (fun a => (idx (ix3 p q a)).toInt)
    (fun a => by fin_cases a <;> exact congrArg (fun j => (idx j).toInt) (funext fun b => by fin_cases b <;> rfl))
    (fun a => by fin_cases a <;> rfl)).trans (all4 _)

/-- The same of a neighbour. -/
theorem lands_near (idx : IVec S512x9x4 32) (p : Fin 512) (o : Fin 9) (b : Fin 8) (c : Fin 3) (R : Fin 250) (Q : Fin 500) :
    scatter_S8x3x250x500_S512x9x4_S512x9_n_0123_0123_2.resultIdx? (ix2 p o) idx = some (ix4 b c R Q) ↔
      (idx (ix3 p o 0)).toInt = b.val ∧ (idx (ix3 p o 1)).toInt = c.val ∧ (idx (ix3 p o 2)).toInt = R.val ∧ (idx (ix3 p o 3)).toInt = Q.val :=
  (lands_iff _ _ _ _ (fun a => (idx (ix3 p o a)).toInt)
    (fun a => by fin_cases a <;> exact congrArg (fun j => (idx j).toInt) (funext fun b => by fin_cases b <;> rfl))
    (fun a => by fin_cases a <;> rfl)).trans (all4 _)

/-! ## The words of an index row -/

section Words

variable (hx : ∀ (k : Fin 8) (b : Fin 8) (n : Fin 64), chan g k (ix2 b n) = x3 (ix3 b n k)) (hT : (kb g).Good) (b : Fin 8) (n : Fin 64)

/-- The batch word names the batch. -/
theorem batch_iff (b' : Fin 8) : (wrapw 8#32 (val_main_v20 (F := Ideal) (ix1 (fl b n)))).toInt = (b'.val : ℤ) ↔ b = b' := by
  have e : (BitVec.ofNat 32 b.val).toInt = (b.val : ℤ) := toInt_small b.val (by omega)
  rw [batch_at, wrapw_eq (by omega), e]
  exact ⟨fun h => Fin.ext (by omega), fun h => by rw [h]⟩

include hx

/-- The class word names the class. -/
theorem cls_iff (hT : (kb g).Good) (c : Fin 3) : (wrapw 3#32 (val_main_v58 (F := Ideal) x3 (ix1 (fl b n)))).toInt = (c.val : ℤ) ↔
    (kb g).cid b n = BitVec.ofNat 32 c.val := by
  obtain ⟨c', h⟩ := hT.cls b n
  have e : (BitVec.ofNat 32 c'.val).toInt = (c'.val : ℤ) := toInt_small c'.val (by omega)
  rw [cid_eq hx, h, wrapw_eq (by omega), e]
  exact ⟨fun q => by rw [show c' = c from Fin.ext (by omega)], fun q => by rw [← toInt_small c.val (by omega), ← q, e]⟩

/-- The row word names the row of a box on the grid. -/
theorem row_iff (hT : (kb g).Good) (R : Fin 250) : (wrapw 250#32 (val_main_v56 (F := Ideal) x3 (ix1 (fl b n)))).toInt = (R.val : ℤ) ↔
    (kb g).va b n = 1#1 ∧ ((kb g).gy b n).toInt = (R.val : ℤ) := by
  rw [row_at hx]
  exact place_iff (by omega) (fun h => (hT.row b n h).1) _

/-- The column word names the column of a box on the grid. -/
theorem col_iff (hT : (kb g).Good) (Q : Fin 500) : (wrapw 500#32 (val_main_v57 (F := Ideal) x3 (ix1 (fl b n)))).toInt = (Q.val : ℤ) ↔
    (kb g).va b n = 1#1 ∧ ((kb g).gx b n).toInt = (Q.val : ℤ) := by
  rw [col_at hx]
  exact place_iff (by omega) (fun h => (hT.col b n h).1) _

/-- The direction word names the direction bin. -/
theorem dir_iff (k : Fin 2) : (wrapw 2#32 (val_main_v165 (F := Ideal) x3 (ix1 (fl b n)))).toInt = (k.val : ℤ) ↔
    ((kb g).db b n = 1#1 ↔ k = 0) := by
  rw [dir_at hx]
  have hk : k = 0 ∨ k = 1 := by omega
  by_cases h : (kb g).db b n = 1#1
  · have e : Scalar.select ((kb g).db b n) 0#32 1#32 = 0#32 := if_pos h
    rw [e, wrapw_eq (by decide)]
    rcases hk with rfl | rfl <;> simp [h]
  · have e : Scalar.select ((kb g).db b n) 0#32 1#32 = 1#32 := if_neg h
    rw [e, wrapw_eq (by decide)]
    rcases hk with rfl | rfl <;> simp [h]

/-- The neighbours' words name the cell exactly when the box is in the cell or next to it. -/
theorem near_iff (hT : (kb g).Good) (R : Fin 250) (Q : Fin 500) :
    (∃ o : Fin 9, (wrapw 250#32 (val_main_v230 (F := Ideal) x3 (ix2 (fl b n) o))).toInt = (R.val : ℤ) ∧
      (wrapw 500#32 (val_main_v238 (F := Ideal) x3 (ix2 (fl b n) o))).toInt = (Q.val : ℤ)) ↔
    (kb g).va b n = 1#1 ∧ ((R.val : ℤ) - 1 ≤ ((kb g).gy b n).toInt ∧ ((kb g).gy b n).toInt ≤ (R.val : ℤ) + 1) ∧
      ((Q.val : ℤ) - 1 ≤ ((kb g).gx b n).toInt ∧ ((kb g).gx b n).toInt ≤ (Q.val : ℤ) + 1) := by
  have hstep : ∀ o : Fin 9, (-1 ≤ (val_main_v221 (F := Ideal) (ix1 o)).toInt ∧ (val_main_v221 (F := Ideal) (ix1 o)).toInt ≤ 1) ∧
      (-1 ≤ (val_main_v222 (F := Ideal) (ix1 o)).toInt ∧ (val_main_v222 (F := Ideal) (ix1 o)).toInt ≤ 1) := by
    intro o
    rw [step_row, step_col]
    omega
  have hrow : ∀ (hv : (kb g).va b n = 1#1) (o : Fin 9), (IntOp.minsi (BitVec.ofNat 32 249) (IntOp.maxsi 0#32
      (IntOp.addi ((kb g).gy b n) (val_main_v221 (F := Ideal) (ix1 o))))).toInt =
        min (249 : ℤ) (max 0 (((kb g).gy b n).toInt + (((o.val / 3 : ℕ) : ℤ) - 1))) := by
    intro hv o
    have := hT.row b n hv
    rw [← step_row]
    exact clip_toInt (K := 249) (by norm_num) (by omega) (by omega) (hstep o).1
  have hcol : ∀ (hv : (kb g).va b n = 1#1) (o : Fin 9), (IntOp.minsi (BitVec.ofNat 32 499) (IntOp.maxsi 0#32
      (IntOp.addi ((kb g).gx b n) (val_main_v222 (F := Ideal) (ix1 o))))).toInt =
        min (499 : ℤ) (max 0 (((kb g).gx b n).toInt + (((o.val % 3 : ℕ) : ℤ) - 1))) := by
    intro hv o
    have := hT.col b n hv
    rw [← step_col]
    exact clip_toInt (K := 499) (by norm_num) (by omega) (by omega) (hstep o).2
  by_cases hv : (kb g).va b n = 1#1
  · have hr := hT.row b n hv
    have hc := hT.col b n hv
    rw [← window_iff (R := (R.val : ℤ)) (Q := (Q.val : ℤ)) hr hc (by omega) (by omega)]
    simp only [hv, true_and]
    refine exists_congr fun o => ?_
    rw [near_row hx, near_col hx, place_iff (by omega) (fun h => by rw [hrow h]; omega), place_iff (by omega) (fun h => by rw [hcol h]; omega),
      hrow hv, hcol hv]
    simp only [hv, true_and]
  · refine iff_of_false ?_ fun h => hv h.1
    rintro ⟨o, h, -⟩
    rw [near_row hx, place_iff (by omega) (fun h => absurd h hv)] at h
    exact hv h.1

end Words

/-! ## The target arrays -/

section Targets

variable (hx : ∀ (k : Fin 8) (b : Fin 8) (n : Fin 64), chan g k (ix2 b n) = x3 (ix3 b n k)) (hT : (kb g).Good)
variable (b : Fin 8) (R : Fin 250) (Q : Fin 500)

include hx hT

/-- Some update by batch, class, row and column lands at the place exactly when a box of the class lies in the cell. -/
theorem hit_lands (c : Fin 3) : (∃ k, scatter_S8x3x250x500_S512x4_S512_n_0123_0123_1.resultIdx? k
    (cat4 (bcol 8#32 wB) (bcol 3#32 (wC x3)) (bcol 250#32 (wR x3)) (bcol 500#32 (wQ x3))) = some (ix4 b c R Q)) ↔ (kb g).Hit b c R Q := by
  constructor
  · rintro ⟨k, h⟩
    obtain ⟨p, rfl⟩ : ∃ p, k = ix1 p := ⟨k 0, eq_ix1 k⟩
    obtain ⟨b', n, rfl⟩ := fl_surj p
    obtain ⟨e0, e1, e2, e3⟩ := cat4_row 8#32 3#32 250#32 500#32 wB (wC x3) (wR x3) (wQ x3) (fl b' n)
    rw [lands_cls, e0, e1, e2, e3, batch_iff, cls_iff hx _ _ hT, row_iff hx _ _ hT, col_iff hx _ _ hT] at h
    obtain ⟨rfl, h1, h2, h3⟩ := h
    exact ⟨n, ⟨h2.1, h2.2, h3.2⟩, h1⟩
  · rintro ⟨n, ⟨h1, h2, h3⟩, h4⟩
    refine ⟨ix1 (fl b n), ?_⟩
    obtain ⟨e0, e1, e2, e3⟩ := cat4_row 8#32 3#32 250#32 500#32 wB (wC x3) (wR x3) (wQ x3) (fl b n)
    rw [lands_cls, e0, e1, e2, e3, batch_iff, cls_iff hx _ _ hT, row_iff hx _ _ hT, col_iff hx _ _ hT]
    exact ⟨rfl, h4, ⟨h1, h2⟩, ⟨h1, h3⟩⟩

/-- The class target: one where a box of the class lies in the cell, nought elsewhere. -/
theorem cls_target (c : Fin 3) : val_main_v86 (F := Ideal) x3 (ix4 b c R Q) = if (kb g).Hit b c R Q then 1 else 0 := by
  refine (scatter_const _ _ _ _ (ix4 b c R Q) (1 : EReal) ?_ ((kb g).Hit b c R Q) ?_).trans ?_
  · intro k
    rw [val_main_v85_apply, val_main_cst_21_apply]
    exact Ideal.ofBits_one_f32
  · rw [idx_hit]
    exact hit_lands hx hT b R Q c
  · rw [val_main_v59_apply, val_main_cst_12_apply]
    congr 1
    exact Ideal.ofBits_zero_f32

/-- The direction target: one where a box of the bin lies in the cell, nought elsewhere. -/
theorem dir_target (k : Fin 2) : val_main_v193 (F := Ideal) x3 (ix4 b k R Q) = if (kb g).Dir b k R Q then 1 else 0 := by
  refine (scatter_const _ _ _ _ (ix4 b k R Q) (1 : EReal) ?_ ((kb g).Dir b k R Q) ?_).trans ?_
  · intro k
    rw [val_main_v192_apply, val_main_cst_50_apply]
    exact Ideal.ofBits_one_f32
  · constructor
    · rintro ⟨j, h⟩
      obtain ⟨p, rfl⟩ : ∃ p, j = ix1 p := ⟨j 0, eq_ix1 j⟩
      obtain ⟨b', n, rfl⟩ := fl_surj p
      obtain ⟨e0, e1, e2, e3⟩ := cat4_row 8#32 2#32 250#32 500#32 wB (wD x3) (wR x3) (wQ x3) (fl b' n)
      rw [idx_dir, lands_dir, e0, e1, e2, e3, batch_iff, dir_iff hx, row_iff hx _ _ hT, col_iff hx _ _ hT] at h
      obtain ⟨rfl, h1, h2, h3⟩ := h
      exact ⟨n, ⟨h2.1, h2.2, h3.2⟩, h1⟩
    · rintro ⟨n, ⟨h1, h2, h3⟩, h4⟩
      refine ⟨ix1 (fl b n), ?_⟩
      obtain ⟨e0, e1, e2, e3⟩ := cat4_row 8#32 2#32 250#32 500#32 wB (wD x3) (wR x3) (wQ x3) (fl b n)
      rw [idx_dir, lands_dir, e0, e1, e2, e3, batch_iff, dir_iff hx, row_iff hx _ _ hT, col_iff hx _ _ hT]
      exact ⟨rfl, h4, ⟨h1, h2⟩, ⟨h1, h3⟩⟩
  · rw [val_main_v166_apply, val_main_cst_41_apply]
    congr 1
    exact Ideal.ofBits_zero_f32

/-- The cells with a box in them. -/
theorem pos_target : val_main_v215 (F := Ideal) x3 (ix3 b R Q) = if (kb g).Pos b R Q then 1#1 else 0#1 := by
  refine (scatter_const _ _ _ _ (ix3 b R Q) 1#1 ?_ ((kb g).Pos b R Q) ?_).trans ?_
  · intro k
    rw [val_main_v214_apply, val_main_c_58_apply]
  · constructor
    · rintro ⟨j, h⟩
      obtain ⟨p, rfl⟩ : ∃ p, j = ix1 p := ⟨j 0, eq_ix1 j⟩
      obtain ⟨b', n, rfl⟩ := fl_surj p
      obtain ⟨e0, e1, e2⟩ := cat3_row 8#32 250#32 500#32 wB (wR x3) (wQ x3) (fl b' n)
      rw [idx_pos, lands_pos, e0, e1, e2, batch_iff, row_iff hx _ _ hT, col_iff hx _ _ hT] at h
      obtain ⟨rfl, h2, h3⟩ := h
      exact ⟨n, h2.1, h2.2, h3.2⟩
    · rintro ⟨n, h1, h2, h3⟩
      refine ⟨ix1 (fl b n), ?_⟩
      obtain ⟨e0, e1, e2⟩ := cat3_row 8#32 250#32 500#32 wB (wR x3) (wQ x3) (fl b n)
      rw [idx_pos, lands_pos, e0, e1, e2, batch_iff, row_iff hx _ _ hT, col_iff hx _ _ hT]
      exact ⟨rfl, ⟨h1, h2⟩, ⟨h1, h3⟩⟩
  · rw [val_main_v194_apply, val_main_c_51_apply]

/-- The cells with no box of the class in them or next to them. -/
theorem near_target (c : Fin 3) : val_main_v270 (F := Ideal) x3 (ix4 b c R Q) = if (kb g).Near b c R Q then 0#1 else 1#1 := by
  refine (scatter_const _ _ _ _ (ix4 b c R Q) 0#1 ?_ ((kb g).Near b c R Q) ?_).trans ?_
  · intro k
    rw [val_main_v269_apply, val_main_c_75_apply]
  · constructor
    · rintro ⟨j, h⟩
      obtain ⟨p, o, rfl⟩ : ∃ p o, j = ix2 p o := ⟨j 0, j 1, eq_ix2 j⟩
      obtain ⟨b', n, rfl⟩ := fl_surj p
      obtain ⟨e0, e1, e2, e3⟩ := quad9_row (over9 (scol 8#32 wB)) (over9 (scol 3#32 (wC x3)))
        (wraps bcast_S_S512x9 250#32 (val_main_v230 (F := Ideal) x3)) (wraps bcast_S_S512x9 500#32 (val_main_v238 (F := Ideal) x3)) (fl b' n) o
      rw [idx_near, lands_near, e0, e1, e2, e3, over9_apply, over9_apply, wraps_apply, wraps_apply, batch_iff, cls_iff hx _ _ hT] at h
      obtain ⟨rfl, h1, h2⟩ := h
      obtain ⟨h3, h4, h5⟩ := (near_iff hx _ _ hT R Q).1 ⟨o, h2⟩
      exact ⟨n, h3, h4, h5, h1⟩
    · rintro ⟨n, h3, h4, h5, h1⟩
      obtain ⟨o, h2⟩ := (near_iff hx b n hT R Q).2 ⟨h3, h4, h5⟩
      refine ⟨ix2 (fl b n) o, ?_⟩
      obtain ⟨e0, e1, e2, e3⟩ := quad9_row (over9 (scol 8#32 wB)) (over9 (scol 3#32 (wC x3)))
        (wraps bcast_S_S512x9 250#32 (val_main_v230 (F := Ideal) x3)) (wraps bcast_S_S512x9 500#32 (val_main_v238 (F := Ideal) x3)) (fl b n) o
      rw [idx_near, lands_near, e0, e1, e2, e3, over9_apply, over9_apply, wraps_apply, wraps_apply, batch_iff, cls_iff hx _ _ hT]
      exact ⟨rfl, h1, h2⟩
  · rw [val_main_v239_apply, val_main_c_66_apply]

/-- The cells that count in the class loss. -/
theorem counts_target (c : Fin 3) : val_main_v297 (F := Ideal) x3 (ix4 b c R Q) = if (kb g).Counts b c R Q then 1#1 else 0#1 := by
  refine (scatter_const _ _ _ _ (ix4 b c R Q) 1#1 ?_ ((kb g).Hit b c R Q) ?_).trans ?_
  · intro k
    rw [val_main_v296_apply, val_main_c_84_apply]
  · rw [idx_again]
    exact hit_lands hx hT b R Q c
  · rw [near_target hx hT]
    unfold Boxes.Counts
    by_cases h1 : (kb g).Hit b c R Q <;> by_cases h2 : (kb g).Near b c R Q <;> simp [h1, h2]

/-- The regression target of a cell with a box in it: the values of its last box. -/
theorem reg_target (i : Fin 7) (h : (kb g).Pos b R Q) : val_main_v160 (F := Ideal) x3 (ix4 b i R Q) = (kb g).target i b R Q := by
  obtain ⟨n, hn⟩ := h.last
  rw [hn.target]
  have lands : ∀ (b' : Fin 8) (n' : Fin 64) (q : Fin 7),
      scatter_S8x7x250x500_S512x7x4_S512x7_n_0123_0123_2.resultIdx? (ix2 (fl b' n') q) (val_main_v159 (F := Ideal) x3) = some (ix4 b i R Q) ↔
        b' = b ∧ q = i ∧ (kb g).InCell b R Q n' := by
    intro b' n' q
    have e : (wrapw 7#32 (val_main_v125 (F := Ideal) (ix1 q))).toInt = (q.val : ℤ) := by
      have e' : (BitVec.ofNat 32 q.val).toInt = (q.val : ℤ) := toInt_small q.val (by omega)
      rw [val_main_v125_apply]
      rw [wrapw_eq (by show 0 ≤ (BitVec.ofNat 32 q.val).toInt; omega)]
      exact e'
    obtain ⟨e0, e1, e2, e3⟩ := quad7_row (over7 (scol 8#32 wB)) (nums7 (val_main_v125 (F := Ideal)))
      (over7 (scol 250#32 (wR x3))) (over7 (scol 500#32 (wQ x3))) (fl b' n') q
    rw [idx_reg, lands_reg, e0, e1, e2, e3, over7_apply, nums7_apply, over7_apply, over7_apply, batch_iff, row_iff hx _ _ hT, col_iff hx _ _ hT, e]
    constructor
    · rintro ⟨rfl, h1, h2, h3⟩
      exact ⟨rfl, Fin.ext (by omega), h2.1, h2.2, h3.2⟩
    · rintro ⟨rfl, rfl, h1, h2, h3⟩
      exact ⟨rfl, rfl, ⟨h1, h2⟩, ⟨h1, h3⟩⟩
  refine (scatter_last _ _ _ _ (ix4 b i R Q) (ix2 (fl b n) i) ((lands b n i).2 ⟨rfl, rfl, hn.1⟩) ?_).trans (rv_eq hx b n hT hn.1.1 i)
  intro k hlt hk
  obtain ⟨p, q, rfl⟩ : ∃ p q, k = ix2 p q := ⟨k 0, k 1, eq_ix2 k⟩
  obtain ⟨b', n', rfl⟩ := fl_surj p
  obtain ⟨rfl, rfl, hin⟩ := (lands b' n' q).1 hk
  refine hn.2 n' ?_ hin
  have h1 : ((S512x7.rowMajor (ix2 (fl b' n) q)).val) = (fl b' n).val * 7 + q.val := Shape.rowMajor_val_two _
  have h2 : ((S512x7.rowMajor (ix2 (fl b' n') q)).val) = (fl b' n').val * 7 + q.val := Shape.rowMajor_val_two _
  have h3 : (S512x7.rowMajor (ix2 (fl b' n) q)).val < (S512x7.rowMajor (ix2 (fl b' n') q)).val := hlt
  rw [h1, h2] at h3
  show n.val < n'.val
  have : (64 * b'.val + n.val) * 7 + q.val < (64 * b'.val + n'.val) * 7 + q.val := h3
  omega

end Targets

end Cert.ReferenceIdeal.Loss

end
-- ==== Proof.Focal.lean ====
/- The textbook forms of the losses of one cell, on the extended reals, and what they are at a logit above minus infinity. No program in sight. -/
module

public import proofs.«01_k».proof.Proof.Arith
public import Idealize.ShloMosaic.Lib.IdealHost

@[expose] public section

noncomputable section

namespace Cert.Spec

open Idealize.ShloMosaic
open scoped Classical

/-- The logarithm of the sigmoid, as the opposite of the logarithm of a sum of exponentials. -/
def lsR (x : EReal) : EReal :=
  -Scalar.select (Ideal.cmp .une (-x - Ideal.ofBits .f32 0x00000000#32) (-x - Ideal.ofBits .f32 0x00000000#32)) (-x + Ideal.ofBits .f32 0x00000000#32)
    (max (-x) (Ideal.ofBits .f32 0x00000000#32) + Ideal.log1p (Ideal.exp (-(max (-x - Ideal.ofBits .f32 0x00000000#32) (-(-x - Ideal.ofBits .f32 0x00000000#32))))))

/-- The comparison of a number with itself finds no difference. -/
theorem une_self (y z w : EReal) : Scalar.select (Ideal.cmp .une y y) z w = w := by
  refine if_neg ?_
  simp [Ideal.cmp]

/-- At a real logit it is the logarithm of the sigmoid. -/
theorem lsR_coe (a : ℝ) : lsR (a : EReal) = ((ls a : ℝ) : EReal) := by
  unfold lsR
  rw [une_self, Ideal.ofBits_zero_f32, sub_zero, ← EReal.coe_neg, coe_abs, ← EReal.coe_neg, log1p_exp, abs_neg]
  have hm : max ((-a : ℝ) : EReal) 0 = ((max (-a) 0 : ℝ) : EReal) := by
    rw [← EReal.coe_zero]; exact (EReal.coe_strictMono.monotone.map_max).symm
  rw [hm, ← EReal.coe_add, ← EReal.coe_neg]
  congr 1
  by_cases h0 : 0 ≤ a
  · rw [max_eq_right (by linarith), abs_of_nonneg h0, zero_add]; rfl
  · rw [max_eq_left (by linarith), abs_of_neg (not_le.1 h0), neg_neg]
    have := ls_neg a
    have e : ls (-a) = -Real.log (1 + Real.exp a) := by unfold ls; rw [neg_neg]
    linarith

/-- At plus infinity it is nought. -/
theorem lsR_top : lsR ⊤ = 0 := by
  unfold lsR
  rw [une_self, Ideal.ofBits_zero_f32, sub_zero, EReal.neg_top, EReal.neg_bot, max_eq_right bot_le, max_eq_right le_top, EReal.neg_top,
    log1p_exp_bot, add_zero, neg_zero]

/-- At minus infinity it is minus infinity. -/
theorem lsR_bot : lsR ⊥ = ⊥ := by
  unfold lsR
  rw [une_self, Ideal.ofBits_zero_f32, sub_zero, EReal.neg_bot, EReal.neg_top, max_eq_left le_top, max_eq_left bot_le, EReal.neg_top,
    log1p_exp_bot, add_zero, EReal.neg_top]

/-- The cross entropy of a logit and a target. -/
def bce (x t : EReal) : EReal := -(t * lsR x + (Ideal.ofBits .f32 0x3F800000#32 - t) * lsR (-x))

/-- The sigmoid. -/
def sig (x : EReal) : EReal := Ideal.div (Ideal.ofBits .f32 0x3F800000#32) (Ideal.ofBits .f32 0x3F800000#32 + Ideal.exp (-x))

/-- The focal loss of a logit and a target. -/
def focal (x t : EReal) : EReal :=
  (Ideal.ofBits .f32 0x3E800000#32 * t + Ideal.ofBits .f32 0x3F400000#32 * (Ideal.ofBits .f32 0x3F800000#32 - t)) *
    Ideal.pow (Ideal.ofBits .f32 0x3F800000#32 - (sig x * t + (Ideal.ofBits .f32 0x3F800000#32 - sig x) * (Ideal.ofBits .f32 0x3F800000#32 - t)))
      (Ideal.ofBits .f32 0x40400000#32) * bce x t

theorem bits_one : Ideal.ofBits .f32 0x3F800000#32 = ((1 : ℝ) : EReal) := Ideal.ofBits_one_f32

theorem sig_coe (a : ℝ) : sig (a : EReal) = ((Real.exp (ls a) : ℝ) : EReal) := by
  unfold sig
  rw [bits_one, ← EReal.coe_neg, Ideal.exp_coe, ← EReal.coe_add, exp_ls]
  have h : (1 + Real.exp (-a)) ≠ 0 := by positivity
  unfold Ideal.div
  rw [if_neg (by exact_mod_cast h), ← EReal.coe_inv, ← EReal.coe_mul, one_div, one_mul]

theorem bce_coe (a s : ℝ) : bce (a : EReal) (s : EReal) = ((-(s * ls a + (1 - s) * ls (-a)) : ℝ) : EReal) := by
  unfold bce
  rw [bits_one, ← EReal.coe_neg, lsR_coe, lsR_coe]
  norm_cast

theorem focal_coe (a s : ℝ) : focal (a : EReal) (s : EReal) =
    (((1 / 4 * s + 3 / 4 * (1 - s)) * Real.rpow (1 - (Real.exp (ls a) * s + (1 - Real.exp (ls a)) * (1 - s))) 3 *
      -(s * ls a + (1 - s) * ls (-a)) : ℝ) : EReal) := by
  unfold focal
  rw [bce_coe, sig_coe, bits_one, bits_quarter, bits_three_quarters, bits_three]
  simp only [← EReal.coe_sub, ← EReal.coe_mul, ← EReal.coe_add, Ideal.pow_coe_coe]

theorem cube_exp (r : ℝ) : Real.rpow (Real.exp r) 3 = Real.exp (3 * r) := by
  show Real.exp r ^ (3 : ℝ) = _
  rw [← Real.exp_mul, mul_comm]

/-- The focal loss at a hit. -/
theorem focal_one (a : ℝ) : focal (a : EReal) 1 = ((-(1 / 4 * Real.exp (3 * ls (-a)) * ls a) : ℝ) : EReal) := by
  rw [← EReal.coe_one, focal_coe]
  congr 1
  rw [show (1 : ℝ) - (Real.exp (ls a) * 1 + (1 - Real.exp (ls a)) * (1 - 1)) = 1 - Real.exp (ls a) by ring, one_sub_exp_ls, cube_exp]
  ring

/-- The focal loss where nothing is hit. -/
theorem focal_zero (a : ℝ) : focal (a : EReal) 0 = ((-(3 / 4 * Real.exp (3 * ls a) * ls (-a)) : ℝ) : EReal) := by
  rw [← EReal.coe_zero, focal_coe]
  congr 1
  rw [show (1 : ℝ) - (Real.exp (ls a) * 0 + (1 - Real.exp (ls a)) * (1 - 0)) = Real.exp (ls a) by ring, cube_exp]
  ring

/-- The cross entropy at plus infinity. -/
theorem bce_top (h : Prop) : bce ⊤ (if h then 1 else 0) = -(if h then 0 else ⊥) := by
  unfold bce
  rw [lsR_top, EReal.neg_top, lsR_bot, Ideal.ofBits_one_f32, mul_zero, zero_add]
  by_cases h' : h
  · simp only [if_pos h']
    rw [show (1 : EReal) - 1 = 0 by rw [← EReal.coe_one, ← EReal.coe_sub, sub_self, EReal.coe_zero], zero_mul]
  · simp only [if_neg h']
    rw [sub_zero, one_mul]

/-- The sigmoid at plus infinity. -/
theorem sig_top : sig ⊤ = 1 := by
  unfold sig
  rw [EReal.neg_top, Ideal.ofBits_one_f32, show Ideal.exp ⊥ = 0 from rfl, add_zero]
  unfold Ideal.div
  rw [if_neg one_ne_zero, ← EReal.coe_one, ← EReal.coe_inv, ← EReal.coe_mul, inv_one, one_mul]

/-- The focal loss at plus infinity. -/
theorem focal_top (h : Prop) : focal ⊤ (if h then 1 else 0) = -(if h then 0 else ⊥) := by
  unfold focal
  rw [bce_top]
  by_cases h' : h
  · simp only [if_pos h', neg_zero, mul_zero]
  · simp only [if_neg h']
    rw [sig_top, bits_one, EReal.coe_one, mul_zero, zero_add, mul_zero, zero_add, sub_zero, mul_one, mul_one,
      show (1 : EReal) - (1 - 1) = ((1 : ℝ) : EReal) by rw [← EReal.coe_one, ← EReal.coe_sub, ← EReal.coe_sub]; norm_num,
      bits_three, Ideal.pow_coe_coe, bits_three_quarters, ← EReal.coe_mul, EReal.neg_bot]
    exact EReal.coe_mul_top_of_pos (by norm_num [Real.rpow_eq_pow])

/-- The class weight: one for the first class, five for the others. -/
def cwR (c : Fin 3) : EReal := Scalar.select (IntOp.cmpi .eq (BitVec.ofNat 32 c.val) 0#32) (Ideal.ofBits .f32 0x3F800000#32) (Ideal.ofBits .f32 0x40A00000#32)

/-- The loss of a cell and class: the focal loss, weighted at a hit. -/
theorem cls_cell (c : Fin 3) (h : Prop) (x : EReal) (hx : x ≠ ⊥) :
    Scalar.select (Ideal.cmp .oeq (if h then 1 else 0) (Ideal.ofBits .f32 0x3F800000#32)) (focal x (if h then 1 else 0) * cwR c)
      (focal x (if h then 1 else 0)) = -clsTerm c h x := by
  have hq : Ideal.cmp .oeq (if h then 1 else 0) (Ideal.ofBits .f32 0x3F800000#32) = 1#1 ↔ h := by
    rw [Ideal.ofBits_one_f32]
    by_cases h' : h <;> simp [h', Ideal.cmp]
  rw [select_if hq]
  unfold clsTerm
  rcases real_or_top hx with ⟨a, rfl⟩ | rfl
  · rw [upTo_coe, ← EReal.coe_neg]
    unfold clsReal
    by_cases h' : h
    · simp only [if_pos h']
      rw [focal_one]
      have hw : cwR c = ((4 * wt c : ℝ) : EReal) := by
        unfold cwR wt
        rw [bits_one, bits_five]
        fin_cases c
        · exact (if_pos rfl).trans (by norm_num)
        · exact (if_neg (by decide)).trans (by norm_num)
        · exact (if_neg (by decide)).trans (by norm_num)
      rw [hw, ← EReal.coe_mul]
      congr 1
      ring
    · simp only [if_neg h']
      rw [focal_zero]
  · rw [upTo_top, focal_top]
    by_cases h' : h
    · simp only [if_pos h', neg_zero, zero_mul]
    · simp only [if_neg h']

/-- The direction loss of a cell and bin. -/
theorem dir_cell (h : Prop) (x : EReal) (hx : x ≠ ⊥) : bce x (if h then 1 else 0) = -dirTerm h x := by
  unfold dirTerm
  rcases real_or_top hx with ⟨a, rfl⟩ | rfl
  · rw [upTo_coe, ← EReal.coe_neg]
    unfold dirReal
    by_cases h' : h
    · simp only [if_pos h']
      rw [← EReal.coe_one, bce_coe]
      congr 1
      ring
    · simp only [if_neg h']
      rw [← EReal.coe_zero, bce_coe]
      congr 1
      ring
  · rw [upTo_top, bce_top]

/-- A bit as a number. -/
theorem bit_num (h : Prop) : ((((if h then 1#1 else 0#1 : BitVec 1).toNat : ℝ)) : EReal) = if h then 1 else 0 := by
  by_cases h' : h <;> simp [h']

/-- The opposite of a sum over cells of terms below plus infinity. -/
theorem neg_sum4 {A B C D : Type} [Fintype A] [Fintype B] [Fintype C] [Fintype D] (p : A → B → C → D → Prop) (f : A → B → C → D → EReal)
    (hf : ∀ a b c d, f a b c d ≠ ⊤) :
    ∑ a, ∑ b, ∑ c, ∑ d, (if p a b c d then -f a b c d else 0) = -∑ a, ∑ b, ∑ c, ∑ d, if p a b c d then f a b c d else 0 := by
  have h0 : ∀ a b c d, (if p a b c d then f a b c d else 0) ≠ ⊤ := by
    intro a b c d
    split_ifs
    exacts [hf a b c d, EReal.zero_ne_top]
  have h1 : ∀ a b c d, (if p a b c d then -f a b c d else 0) = -(if p a b c d then f a b c d else 0) := by
    intro a b c d
    split_ifs
    exacts [rfl, neg_zero.symm]
  have s1 := fun a b c => neg_sum Finset.univ _ (h0 a b c)
  have s2 := fun a b => neg_sum Finset.univ _ fun c => (s1 a b c).1
  have s3 := fun a => neg_sum Finset.univ _ fun b => (s2 a b).1
  simp only [h1, (s1 _ _ _).2, (s2 _ _).2, (s3 _).2]
  exact (neg_sum Finset.univ _ fun a => (s3 a).1).2

end Cert.Spec

end
-- ==== Proof.RefVal.lean ====
/- The reference's four numbers: the textbook losses, summed over the cells, are the plain ones. -/
module

public import proofs.«01_k».proof.Proof.RefTgt
public import proofs.«01_k».proof.Proof.Focal
public import Idealize.ShloMosaic.Lib.IndicatorCount

@[expose] public section

set_option maxRecDepth 16384

noncomputable section

namespace Cert.ReferenceIdeal.Loss

open Cert.ReferenceIdeal Cert.ReferenceIdeal.Gen Cert.ReferenceIdeal.Read Idealize.ShloMosaic Idealize.ShloMosaic.TcCoe Idealize.SL.Sem
open Cert.KernelIdeal.Loss (kb chan)
open Cert.Spec
open scoped Classical

variable (x0 : (⟨S8x3x250x500, .f32⟩ : BufTy).Contents (Elt Ideal)) (x1 : (⟨S8x7x250x500, .f32⟩ : BufTy).Contents (Elt Ideal))
  (x2 : (⟨S8x2x250x500, .f32⟩ : BufTy).Contents (Elt Ideal)) (x3 : (⟨S8x64x8, .f32⟩ : BufTy).Contents (Elt Ideal))

/-! ## Cell by cell, in the reference's own terms -/

/-- The reference's focal loss. -/
theorem focal_at (i : S8x3x250x500.Idx) : val_main_v332 (F := Ideal) x0 x3 i = focal (x0 i) (val_main_v86 (F := Ideal) x3 i) := by
  simp only [val_main_v332_apply, val_main_v331_apply, val_main_v326_apply, val_main_v321_apply, val_main_v320_apply, val_main_cst_90_apply,
    val_main_v325_apply, val_main_v324_apply, val_main_cst_92_apply, val_main_v323_apply, val_main_v322_apply, val_main_cst_91_apply,
    val_main_v330_apply, val_main_v328_apply, val_main_v327_apply, val_main_cst_93_apply, val_main_v319_apply, val_main_v313_apply,
    val_main_v312_apply, val_main_v311_apply, val_main_cst_87_apply, val_main_v310_apply, val_main_v309_apply, val_main_cst_86_apply,
    val_main_v308_apply, val_main_v307_apply, val_main_v318_apply, val_main_v315_apply, val_main_v314_apply, val_main_cst_88_apply,
    val_main_v317_apply, val_main_v316_apply, val_main_cst_89_apply, val_main_v329_apply, val_main_cst_94_apply, val_main_v306_apply,
    val_main_v305_apply, val_main_v299_apply, val_main_v298_apply, val_main_call7_v1_apply, val_main_call7_call0_v4_apply,
    val_main_call7_call0_v3_apply, val_main_call7_v0_apply, val_main_call7_call0_v2_apply, val_main_call7_call0_cst_apply,
    val_main_call7_call0_v6_apply, val_main_call7_call0_v5_apply, val_main_call7_call0_v11_apply, val_main_call7_call0_v1_apply,
    val_main_call7_call0_v0_apply, val_main_call7_call0_v10_apply, val_main_call7_call0_v9_apply, val_main_call7_call0_v8_apply,
    val_main_call7_call0_v7_apply, val_main_v304_apply, val_main_v301_apply, val_main_v300_apply, val_main_cst_85_apply, val_main_v303_apply,
    val_main_call8_v1_apply, val_main_call8_call0_v4_apply, val_main_call8_call0_v3_apply, val_main_call8_v0_apply, val_main_v302_apply,
    val_main_call8_call0_v2_apply, val_main_call8_call0_cst_apply, val_main_call8_call0_v6_apply, val_main_call8_call0_v5_apply,
    val_main_call8_call0_v11_apply, val_main_call8_call0_v1_apply, val_main_call8_call0_v0_apply, val_main_call8_call0_v10_apply,
    val_main_call8_call0_v9_apply, val_main_call8_call0_v8_apply, val_main_call8_call0_v7_apply]
  rfl

/-- The reference's class weight. -/
theorem weight_at (b : Fin 8) (c : Fin 3) (R : Fin 250) (Q : Fin 500) : val_main_v340 (F := Ideal) (ix4 b c R Q) = cwR c := by
  simp only [val_main_v340_apply, val_main_v337_apply, val_main_v336_apply, val_main_v335_apply, val_main_v333_apply, val_main_v334_apply,
    val_main_c_95_apply, val_main_call9_v0_apply, val_main_cst_96_apply, val_main_call9_v1_apply, val_main_cst_97_apply]
  rfl

/-- The reference's class loss of a cell. -/
theorem cls_at (i : S8x3x250x500.Idx) : val_main_v344 (F := Ideal) x0 x3 i =
    Scalar.select (Ideal.cmp .oeq (val_main_v86 (F := Ideal) x3 i) (Ideal.ofBits .f32 0x3F800000#32))
      (val_main_v332 (F := Ideal) x0 x3 i * val_main_v340 (F := Ideal) i) (val_main_v332 (F := Ideal) x0 x3 i) *
      (((val_main_v297 (F := Ideal) x3 i).toNat : ℝ) : EReal) := by
  simp only [val_main_v344_apply, val_main_v342_apply, val_main_v339_apply, val_main_v338_apply, val_main_cst_98_apply, val_main_v341_apply,
    val_main_v343_apply]
  rfl

/-- The reference's smooth absolute value. -/
theorem smooth_at (i : S8x7x250x500.Idx) : val_main_v358 (F := Ideal) x1 x3 i = smooth (x1 i - val_main_v160 (F := Ideal) x3 i) := by
  simp only [val_main_v358_apply, val_main_v352_apply, val_main_v350_apply, val_main_v349_apply, val_main_v351_apply, val_main_cst_102_apply,
    val_main_v355_apply, val_main_v354_apply, val_main_v353_apply, val_main_cst_103_apply, val_main_v357_apply, val_main_v356_apply,
    val_main_cst_104_apply]
  unfold smooth
  rw [← Ideal.ofBits_one_f32]
  exact select_if (by simp only [ofBool_one, FloatOps.cmpf, Ideal.cmp, decide_eq_true_eq]; rfl) _ _

/-- The reference's direction loss. -/
theorem bce_at (i : S8x2x250x500.Idx) : val_main_v380 (F := Ideal) x2 x3 i = bce (x2 i) (val_main_v193 (F := Ideal) x3 i) := by
  simp only [val_main_v380_apply, val_main_v379_apply, val_main_v373_apply, val_main_v372_apply, val_main_call13_v1_apply,
    val_main_call13_call0_v4_apply, val_main_call13_call0_v3_apply, val_main_call13_v0_apply, val_main_call13_call0_v2_apply,
    val_main_call13_call0_cst_apply, val_main_call13_call0_v6_apply, val_main_call13_call0_v5_apply, val_main_call13_call0_v11_apply,
    val_main_call13_call0_v1_apply, val_main_call13_call0_v0_apply, val_main_call13_call0_v10_apply, val_main_call13_call0_v9_apply,
    val_main_call13_call0_v8_apply, val_main_call13_call0_v7_apply, val_main_v378_apply, val_main_v375_apply, val_main_v374_apply,
    val_main_cst_111_apply, val_main_v377_apply, val_main_call14_v1_apply, val_main_call14_call0_v4_apply, val_main_call14_call0_v3_apply,
    val_main_call14_v0_apply, val_main_v376_apply, val_main_call14_call0_v2_apply, val_main_call14_call0_cst_apply, val_main_call14_call0_v6_apply,
    val_main_call14_call0_v5_apply, val_main_call14_call0_v11_apply, val_main_call14_call0_v1_apply, val_main_call14_call0_v0_apply,
    val_main_call14_call0_v10_apply, val_main_call14_call0_v9_apply, val_main_call14_call0_v8_apply, val_main_call14_call0_v7_apply]
  rfl

/-! ## Cell by cell, in plain terms -/

section Cells

variable {x0 x1 x2 x3} {g : Vec Ideal Cert.KernelIdeal.S8x8x64 .f32} (hx : ∀ (k : Fin 8) (b : Fin 8) (n : Fin 64), chan g k (ix2 b n) = x3 (ix3 b n k))
variable (hT : (kb g).Good) (b : Fin 8) (R : Fin 250) (Q : Fin 500)

include hx hT

/-- The class loss of a cell that counts; nought for the others. -/
theorem cls_term (c : Fin 3) (h : x0 (ix4 b c R Q) ≠ ⊥) : val_main_v344 (F := Ideal) x0 x3 (ix4 b c R Q) =
    if (kb g).Counts b c R Q then -clsTerm c ((kb g).Hit b c R Q) (x0 (ix4 b c R Q)) else 0 := by
  rw [cls_at, focal_at, weight_at, cls_target hx hT, counts_target hx hT, bit_num, cls_cell _ _ _ h]
  split_ifs
  · rw [mul_one]
  · rw [mul_zero]

/-- One for a cell that counts. -/
theorem cnt_term (c : Fin 3) : val_main_v343 (F := Ideal) x3 (ix4 b c R Q) = if (kb g).Counts b c R Q then 1 else 0 := by
  rw [val_main_v343_apply, counts_target hx hT]
  exact bit_num _

/-- One for a cell that holds a box, for each of the seven values. -/
theorem pos_reg (i : Fin 7) : val_main_v366 (F := Ideal) x3 (ix4 b i R Q) = if (kb g).Pos b R Q then 1 else 0 := by
  have e : val_main_v366 (F := Ideal) x3 (ix4 b i R Q) = (((val_main_v215 (F := Ideal) x3 (ix3 b R Q)).toNat : ℝ) : EReal) := by
    simp only [val_main_v366_apply, val_main_v360_apply, val_main_v359_apply]
    exact congrArg (fun j => (((val_main_v215 (F := Ideal) x3 j).toNat : ℝ) : EReal))
      (funext fun a => by match a with | ⟨0, _⟩ => rfl | ⟨1, _⟩ => rfl | ⟨2, _⟩ => rfl)
  rw [e, pos_target hx hT]
  exact bit_num _

/-- One for a cell that holds a box, for both direction bins. -/
theorem pos_dir (k : Fin 2) : val_main_v388 (F := Ideal) x3 (ix4 b k R Q) = if (kb g).Pos b R Q then 1 else 0 := by
  have e : val_main_v388 (F := Ideal) x3 (ix4 b k R Q) = (((val_main_v215 (F := Ideal) x3 (ix3 b R Q)).toNat : ℝ) : EReal) := by
    simp only [val_main_v388_apply, val_main_v382_apply, val_main_v381_apply]
    exact congrArg (fun j => (((val_main_v215 (F := Ideal) x3 j).toNat : ℝ) : EReal))
      (funext fun a => by match a with | ⟨0, _⟩ => rfl | ⟨1, _⟩ => rfl | ⟨2, _⟩ => rfl)
  rw [e, pos_target hx hT]
  exact bit_num _

/-- The regression loss of a cell that holds a box; nought for the others. -/
theorem reg_term (i : Fin 7) : val_main_v367 (F := Ideal) x1 x3 (ix4 b i R Q) =
    if (kb g).Pos b R Q then smooth (x1 (ix4 b i R Q) - (kb g).target i b R Q) else 0 := by
  rw [val_main_v367_apply]
  refine (congrArg₂ (fun y z : EReal => y * z) (smooth_at x1 x3 _) (pos_reg hx hT b R Q i)).trans ?_
  by_cases h : (kb g).Pos b R Q
  · simp only [if_pos h]
    rw [mul_one, reg_target hx hT b R Q i h]
  · simp only [if_neg h, mul_zero]

/-- The direction loss of a cell that holds a box; nought for the others. -/
theorem dir_term (k : Fin 2) (h : x2 (ix4 b k R Q) ≠ ⊥) : val_main_v389 (F := Ideal) x2 x3 (ix4 b k R Q) =
    if (kb g).Pos b R Q then -dirTerm ((kb g).Dir b k R Q) (x2 (ix4 b k R Q)) else 0 := by
  rw [val_main_v389_apply]
  refine (congrArg₂ (fun y z : EReal => y * z) (bce_at x2 x3 _) (pos_dir hx hT b R Q k)).trans ?_
  simp only [dir_target hx hT, dir_cell _ _ h]
  split_ifs
  · rw [mul_one]
  · rw [mul_zero]

end Cells

/-! ## The sums -/

/-- A count of bits in whole numbers is their sum, when there are few. -/
theorem count_bits {s t u : Shape} {axes : List (Fin s.rank)} (p : s.Idx → BitVec 1) (h : s.ReducesTo axes t) (hu : 0 < u.numel)
    (h1 : ∀ j j' : t.Idx, j = j') (i : t.Idx) (hn : s.numel ≤ 1000000) :
    (((Host.reduce IntOp.addi (fun j => (p j).setWidth 32) (fun _ : u.Idx => 0#32) h hu i).toInt : ℝ) : EReal) =
      ∑ j, if p j = 1#1 then (1 : EReal) else 0 := by
  rw [Host.reduce_eq_fold, Finset.filter_true_of_mem (fun j _ => h1 _ _), IndicatorCount.fold_addi_setWidth_eq_card]
  have hle : (Finset.univ.filter fun j => p j = 1#1).card ≤ 1000000 := by
    refine (Finset.card_le_univ _).trans (le_trans (le_of_eq ?_) hn)
    exact (Fintype.card_congr s.rowMajor).trans (Fintype.card_fin _)
  have ht : (BitVec.ofNat 32 (Finset.univ.filter fun j => p j = 1#1).card).toInt = ((Finset.univ.filter fun j => p j = 1#1).card : ℤ) := by
    generalize (Finset.univ.filter fun j => p j = 1#1).card = k at hle ⊢
    rw [BitVec.toInt_ofNat', Int.bmod_def]
    norm_num
    split_ifs <;> omega
  rw [ht]
  have hr : ∀ j, (if p j = 1#1 then (1 : EReal) else 0) = (((if p j = 1#1 then (1 : ℝ) else 0) : ℝ) : EReal) := by
    intro j
    split_ifs <;> simp
  simp only [hr]
  rw [← coe_sum, Finset.sum_boole]
  norm_cast

/-- The grids of all batches have a million cells. -/
theorem cells_few : S8x250x500.numel ≤ 1000000 := by decide

section Sums

variable {x0 x1 x2 x3} {g : Vec Ideal Cert.KernelIdeal.S8x8x64 .f32} (hx : ∀ (k : Fin 8) (b : Fin 8) (n : Fin 64), chan g k (ix2 b n) = x3 (ix3 b n k))
variable (hT : (kb g).Good) (i : S_.Idx)

include hx hT

theorem cls_sum (h0 : ∀ b c R Q, x0 (ix4 b c R Q) ≠ ⊥) :
    val_main_v345 (F := Ideal) x0 x3 i = -clsSum (kb g) (fun b c R Q => x0 (ix4 b c R Q)) := by
  rw [val_main_v345_apply, val_main_cst_99_apply]
  refine (congrArg₂ (fun y z : EReal => y + z) Ideal.ofBits_zero_f32 (sum_idx4 _)).trans ?_
  simp only [zero_add, cls_term hx hT _ _ _ _ (h0 _ _ _ _)]
  exact neg_sum4 (fun b c R Q => (kb g).Counts b c R Q) (fun b c R Q => clsTerm c ((kb g).Hit b c R Q) (x0 (ix4 b c R Q)))
    fun b c R Q => upTo_ne_top _ _ _

theorem cnt_sum : val_main_v346 (F := Ideal) x3 i = cntSum (kb g) := by
  rw [val_main_v346_apply, val_main_cst_100_apply]
  refine (congrArg₂ (fun y z : EReal => y + z) Ideal.ofBits_zero_f32 (sum_idx4 _)).trans ?_
  simp only [zero_add, cnt_term hx hT]
  rfl

theorem reg_sum : val_main_v368 (F := Ideal) x1 x3 i = regSum (kb g) (fun b k R Q => x1 (ix4 b k R Q)) := by
  rw [val_main_v368_apply, val_main_cst_108_apply]
  refine (congrArg₂ (fun y z : EReal => y + z) Ideal.ofBits_zero_f32 (sum_idx4 _)).trans ?_
  simp only [zero_add, reg_term hx hT]
  rfl

theorem dir_sum (h2 : ∀ b k R Q, x2 (ix4 b k R Q) ≠ ⊥) :
    val_main_v390 (F := Ideal) x2 x3 i = -dirSum (kb g) (fun b k R Q => x2 (ix4 b k R Q)) := by
  rw [val_main_v390_apply, val_main_cst_115_apply]
  refine (congrArg₂ (fun y z : EReal => y + z) Ideal.ofBits_zero_f32 (sum_idx4 _)).trans ?_
  simp only [zero_add, dir_term hx hT _ _ _ _ (h2 _ _ _ _)]
  exact neg_sum4 (fun b k R Q => (kb g).Pos b R Q) (fun b k R Q => dirTerm ((kb g).Dir b k R Q) (x2 (ix4 b k R Q)))
    fun b k R Q => upTo_ne_top _ _ _

/-- The number of cells that hold a box, counted in whole numbers. -/
theorem pos_sum : (((Host.reduce IntOp.addi (fun j => (val_main_v215 (F := Ideal) x3 j).setWidth 32) (fun _ : S_.Idx => 0#32)
    reducesTo_S8x250x500_S_d0_1_2 h_S_ i).toInt : ℝ) : EReal) = posSum (kb g) := by
  rw [count_bits (val_main_v215 (F := Ideal) x3) reducesTo_S8x250x500_S_d0_1_2 h_S_ (fun j j' => funext fun a => a.elim0) i cells_few]
  refine (sum_idx3 _).trans ?_
  unfold posSum
  refine Finset.sum_congr rfl fun b _ => Finset.sum_congr rfl fun R _ => Finset.sum_congr rfl fun Q _ => ?_
  rw [pos_target hx hT]
  by_cases h : (kb g).Pos b R Q <;> simp [h]

end Sums

/-! ## The four numbers -/

section Result

variable {x0 x1 x2 x3} {g : Vec Ideal Cert.KernelIdeal.S8x8x64 .f32} (hx : ∀ (k : Fin 8) (b : Fin 8) (n : Fin 64), chan g k (ix2 b n) = x3 (ix3 b n k))
variable (hT : (kb g).Good) (i : S_.Idx)

/-- A mean over a count, chosen by whether the count is positive. -/
theorem mean_eq (s n : EReal) : Scalar.select (Ideal.cmp .ogt n (Ideal.ofBits .f32 0x00000000#32))
    (Ideal.div s (max n (Ideal.ofBits .f32 0x3F800000#32))) (Ideal.ofBits .f32 0x00000000#32) = mean s n := by
  unfold mean
  rw [Ideal.ofBits_zero_f32, Ideal.ofBits_one_f32]
  exact select_if (by simp only [Ideal.cmp, ofBool_one, decide_eq_true_eq]) _ _

include hx hT

/-- The class loss. -/
theorem cls_loss (h0 : ∀ b c R Q, x0 (ix4 b c R Q) ≠ ⊥) : val_main_v348 (F := Ideal) x0 x3 i =
    clsLoss (clsSum (kb g) (fun b c R Q => x0 (ix4 b c R Q))) (cntSum (kb g)) := by
  rw [val_main_v348_apply, val_main_v347_apply, val_main_cst_101_apply, cls_sum hx hT i h0, cnt_sum hx hT i]
  rfl

/-- The regression loss. -/
theorem reg_loss : val_main_v371 (F := Ideal) x1 x3 i = regLoss (regSum (kb g) (fun b k R Q => x1 (ix4 b k R Q))) (posSum (kb g)) := by
  have hp : val_main_v363 (F := Ideal) x3 i = posSum (kb g) := pos_sum hx hT i
  simp only [val_main_v371_apply, val_main_v365_apply, val_main_v364_apply, val_main_cst_106_apply, val_main_cst_107_apply, val_main_v370_apply,
    val_main_v369_apply, val_main_cst_109_apply, val_main_call12_v0_apply, val_main_cst_110_apply]
  rw [hp, reg_sum hx hT i]
  exact mean_eq _ _

/-- The direction loss. -/
theorem dir_loss (h2 : ∀ b k R Q, x2 (ix4 b k R Q) ≠ ⊥) : val_main_v393 (F := Ideal) x2 x3 i =
    dirLoss (posSum (kb g)) (dirSum (kb g) (fun b k R Q => x2 (ix4 b k R Q))) := by
  have hp : val_main_v385 (F := Ideal) x3 i = posSum (kb g) := pos_sum hx hT i
  simp only [val_main_v393_apply, val_main_v387_apply, val_main_v386_apply, val_main_cst_113_apply, val_main_cst_114_apply, val_main_v392_apply,
    val_main_v391_apply, val_main_cst_116_apply, val_main_call15_v0_apply, val_main_cst_117_apply]
  rw [hp, dir_sum hx hT i h2]
  exact mean_eq _ _

/-- The reference's result. -/
theorem reference_result (h0 : ∀ b c R Q, x0 (ix4 b c R Q) ≠ ⊥) (h2 : ∀ b k R Q, x2 (ix4 b k R Q) ≠ ⊥)
    (j : Fin 4) : val_main_v404 (F := Ideal) x0 x1 x2 x3 (ix3 0 0 j) =
      result (clsSum (kb g) (fun b c R Q => x0 (ix4 b c R Q))) (cntSum (kb g)) (regSum (kb g) (fun b k R Q => x1 (ix4 b k R Q))) (posSum (kb g))
        (dirSum (kb g) (fun b k R Q => x2 (ix4 b k R Q))) j := by
  have e : val_main_v404 (F := Ideal) x0 x1 x2 x3 (ix3 0 0 j) = val_main_v403 (F := Ideal) x0 x1 x2 x3 (ix1 j) := by
    rw [val_main_v404_apply]
    exact congrArg _ (funext fun a => by match a with | ⟨0, _⟩ => exact Fin.ext (by show ((0 * 1 + 0) * 4 + j.val) = j.val; omega))
  rw [e]
  have hz : ∀ k : S_.Idx, k = fun a => a.elim0 := fun k => funext fun a => a.elim0
  fin_cases j
  · have e : val_main_v403 (F := Ideal) x0 x1 x2 x3 (ix1 0) = val_main_v399 (F := Ideal) x0 x1 x2 x3 (ix1 0) := by
      pointwise [val_main_v403]
    refine e.trans ?_
    rw [val_main_v399_apply, val_main_v398_apply, val_main_v397_apply, val_main_v396_apply, val_main_v395_apply, val_main_v394_apply,
      cls_loss hx hT _ h0, reg_loss hx hT, dir_loss hx hT _ h2]
    show Ideal.ofBits .f32 0x3F800000#32 * _ + _ * _ + _ * _ = 1 * _ + _ * _ + _ * _
    rw [Ideal.ofBits_one_f32]
    rfl
  · have e : val_main_v403 (F := Ideal) x0 x1 x2 x3 (ix1 1) = val_main_v400 (F := Ideal) x0 x3 (ix1 0) := by
      pointwise [val_main_v403]
    refine e.trans ?_
    rw [val_main_v400_apply, cls_loss hx hT _ h0]
    rfl
  · have e : val_main_v403 (F := Ideal) x0 x1 x2 x3 (ix1 2) = val_main_v401 (F := Ideal) x1 x3 (ix1 0) := by
      pointwise [val_main_v403]
    refine e.trans ?_
    rw [val_main_v401_apply, reg_loss hx hT]
    rfl
  · have e : val_main_v403 (F := Ideal) x0 x1 x2 x3 (ix1 3) = val_main_v402 (F := Ideal) x2 x3 (ix1 0) := by
      pointwise [val_main_v403]
    refine e.trans ?_
    rw [val_main_v402_apply, dir_loss hx hT _ h2]
    rfl

end Result

end Cert.ReferenceIdeal.Loss

end
-- ==== Proof.Same.lean ====
/- The two programs' results are one: what the precondition says of the inputs, and both results as the same four numbers. -/
module

public import proofs.«01_k».proof.Defs
public import proofs.«01_k».proof.Proof.KerSum
public import proofs.«01_k».proof.Proof.RefVal

@[expose] public section

noncomputable section

namespace Cert.Same

open Idealize.ShloMosaic Idealize.ShloMosaic.TcCoe Idealize.SL.Sem
open Cert.KernelIdeal.Loss (kb chan boxes X1 X2 X3)

/-! ## The precondition -/

theorem bits_minus_inf : Ideal.ofBits .f32 0xFF800000#32 = ⊥ := by simp [Ideal.ofBits, Ideal.ieee]

/-- A number above the word of minus infinity is not minus infinity. -/
theorem above (x : EReal) (h : Ideal.cmp .ogt x (Ideal.ofBits .f32 0xFF800000#32) = 1#1) : x ≠ ⊥ := by
  simp only [Ideal.cmp, Spec.ofBool_one, decide_eq_true_eq, bits_minus_inf] at h
  exact ne_of_gt h

section Pre

variable [Cert.Pre_in_range.Facts] {m : (ℓ : Loc Cert.KernelIdeal.nD Cert.KernelIdeal.τ Cert.KernelIdeal.sig) → Buf (Elt Ideal) ℓ}
  (hP : Cert.Pre_KernelIdeal_in_range m) (c : Dev Cert.KernelIdeal.nD)

include hP

/-- The class logits are above minus infinity. -/
theorem cls_above (b : Fin 8) (k : Fin 3) (R : Fin 250) (Q : Fin 500) : X1 m c b k R Q ≠ ⊥ :=
  above _ (congrFun (hP c).1 (ix4 b k R Q))

/-- The direction logits are above minus infinity. -/
theorem dir_above (b : Fin 8) (k : Fin 2) (R : Fin 250) (Q : Fin 500) : X3 m c b k R Q ≠ ⊥ :=
  above _ (congrFun (hP c).2.1 (ix4 b k R Q))

omit hP in
/-- The class column of the boxes. -/
theorem cid_col (x : FVec Ideal Cert.Pre_in_range.S8x64x8 .f32) (h : Cert.Pre_in_range.S8x64x8.Slices ![0, 0, 7] Cert.Pre_in_range.S8x64x1)
    (h' : Cert.Pre_in_range.S8x64x1.ShapeCasts Cert.Pre_in_range.S8x64) (b : Fin 8) (n : Fin 64) :
    shapeCast Cert.Pre_in_range.S8x64 (extractStridedSlice Cert.Pre_in_range.S8x64x1 ![0, 0, 7] x h) h' (ix2 b n) = x (ix3 b n 7) := by
  pointwise []

/-- The classes, as integers, are nought, one or two. -/
theorem cls_range (b : Fin 8) (n : Fin 64) :
    0 ≤ (Ideal.fptosi 32 (chan (boxes m c) 7 (ix2 b n))).toInt ∧ (Ideal.fptosi 32 (chan (boxes m c) 7 (ix2 b n))).toInt < 3 := by
  rw [Cert.KernelIdeal.Loss.chan_boxes]
  have h1 := congrFun (hP c).2.2.1 (ix2 b n)
  have h2 := congrFun (hP c).2.2.2 (ix2 b n)
  have e := cid_col (m ((c.tc : Thread Cert.KernelIdeal.nD Cert.KernelIdeal.τ).loc Cert.KernelIdeal.main_arg3))
    Cert.Pre_in_range.Facts.slices_S8x64x8_S8x64x1_0_0_7 Cert.Pre_in_range.Facts.shapeCasts_S8x64x1_S8x64 b n
  constructor
  · have h : IntOp.cmpi .sge (Ideal.fptosi 32 _) 0#32 = 1#1 := h1
    rw [e] at h
    exact (Spec.sge_one _ _).1 h
  · have h : IntOp.cmpi .slt (Ideal.fptosi 32 _) 3#32 = 1#1 := h2
    rw [e] at h
    exact (Spec.slt_one _ _).1 h

/-- The boxes are good: those on the grid have a row and a column of it, and all have one of the three classes. -/
theorem good : (kb (boxes m c)).Good where
  row b n h := by
    have h : Cert.KernelIdeal.Loss.valid (boxes m c) (ix2 b n) = 1#1 := h
    unfold Cert.KernelIdeal.Loss.valid at h
    simp only [andi, Spec.and_one] at h
    exact ⟨(Spec.sge_one _ _).1 h.1.2, (Spec.slt_one _ _).1 h.2⟩
  col b n h := by
    have h : Cert.KernelIdeal.Loss.valid (boxes m c) (ix2 b n) = 1#1 := h
    unfold Cert.KernelIdeal.Loss.valid at h
    simp only [andi, Spec.and_one] at h
    exact ⟨(Spec.sge_one _ _).1 h.1.1.1.2, (Spec.slt_one _ _).1 h.1.1.2⟩
  cls b n := by
    obtain ⟨k, hk, e⟩ := Spec.word_of_toInt (N := 3) (cls_range hP c b n).1 (cls_range hP c b n).2 (by norm_num)
    exact ⟨⟨k, hk⟩, e⟩

end Pre

/-! ## The two results -/

/-- From a memory of which the precondition holds, the kernel's result is the reference's at the same arguments. -/
theorem same [Cert.Pre_in_range.Facts] {m : (ℓ : Loc Cert.KernelIdeal.nD Cert.KernelIdeal.τ Cert.KernelIdeal.sig) → Buf (Elt Ideal) ℓ}
    (hP : Cert.Pre_KernelIdeal_in_range m) (c : Dev Cert.KernelIdeal.nD) :
    Cert.KernelIdeal.Value.G4 m c = Cert.ReferenceIdeal.Read.val_main_v404 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) := by
  funext i
  obtain ⟨j, rfl⟩ : ∃ j : Fin 4, i = ix3 0 0 j :=
    ⟨i 2, funext fun a => by match a with | ⟨0, _⟩ => exact Subsingleton.elim (α := Fin 1) _ _ | ⟨1, _⟩ => exact Subsingleton.elim (α := Fin 1) _ _ | ⟨2, _⟩ => rfl⟩
  have hx := fun k b n => Cert.KernelIdeal.Loss.chan_boxes m c k b n
  exact (Cert.KernelIdeal.Loss.kernel_result m c (good hP c) (cls_above hP c) (dir_above hP c) j).trans
    (Cert.ReferenceIdeal.Loss.reference_result hx (good hP c) (cls_above hP c) (dir_above hP c) j).symm

end Cert.Same

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_in_range
public import proofs.«01_k».proof.Proof.Same
public import Idealize.ShloMosaic.Lib.Quiescent
public import Idealize.ShloMosaic.Lib.Claim

@[expose] public section

noncomputable section

namespace Cert.Proof

open Idealize.ShloMosaic Idealize.ShloMosaic.TcCoe Idealize.SL.Sem

/-- The kernel's frame. -/
theorem frame_p : Cert.quiescent_Kernel := fun m ρ _ => Cert.Kernel.Gen.frame m ρ

/-- The ideal kernel's frame. -/
theorem frame_pi : Cert.quiescent_KernelIdeal := fun m ρ _ => Cert.KernelIdeal.Gen.frame m ρ

/-- The ideal reference's frame. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The cell's edge is named: its constant denotes 2/5. -/
theorem preserves : Cert.preserves_Kernel_KernelIdeal :=
  IdealRules.named_const.statement Cert.KernelIdeal.κ "cell" .f32 0x3ECCCCCD#32 ((2 / 5 : ℝ) : EReal) rfl

/-- On inputs in range the ideal kernel and the ideal reference end with the same four numbers, their arguments kept. -/
theorem algebraic [Cert.Pre_in_range.Facts] : Cert.algebraic_KernelIdeal_ReferenceIdeal_pre_in_range := by
  intro m g m' g' hP hA
  refine ⟨fun c => Cert.KernelIdeal.Value.G4 m c, Cert.KernelIdeal.Value.run (F := Ideal) m g, ?_⟩
  refine (θ_run Cert.ReferenceIdeal.defs _ _).mono (fun r h c => ⟨?_, (h c).2⟩) (Cert.ReferenceIdeal.Value.run (F := Ideal) m' g')
  refine (h c).1.trans ((Cert.ReferenceIdeal.Read.val_main_v404_eq (F := Ideal) (StableHlo.launchContents m' c)).trans ?_)
  obtain ⟨h0, h1, h2, h3, -⟩ := hA c
  refine Eq.trans ?_ (Cert.Same.same hP c).symm
  rw [← h0, ← h1, ← h2, ← h3]

/-- Every claim of this certificate: the frames, what the named constant denotes, and the equality of the results. -/
theorem claim : Cert.Claim := ⟨Cert.Kernel.Gen.facts, Cert.KernelIdeal.Gen.facts, Cert.ReferenceIdeal.Gen.facts, Cert.Pre_in_range.Gen.facts,
  frame_p, frame_pi, fun m g _ => frame_pi m g trivial, frame_ri, fun m g _ => frame_ri m g trivial, preserves,
  @algebraic Cert.Pre_in_range.Gen.facts⟩

end Cert.Proof

end
